-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v0)) (v1 : (c : Dev Cert.KernelIdeal.nD) → Buf (Elt Ideal) ((c.tc : Thread Cert.KernelIdeal.nD Cert.KernelIdeal.τ).loc Cert.KernelIdeal.main_v3_0)) (v2 : (c : Dev Cert.KernelIdeal.nD) → Buf (Elt Ideal) ((c.tc : Thread Cert.KernelIdeal.nD Cert.KernelIdeal.τ).loc Cert.KernelIdeal.main_v3_2)) (v3 : (c : Dev Cert.KernelIdeal.nD) → Buf (Elt Ideal) ((c.tc : Thread Cert.KernelIdeal.nD Cert.KernelIdeal.τ).loc Cert.KernelIdeal.main_v3_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_v3_0) = v1 c
          ∧ r.2.mem ((c.tc : Thread Cert.KernelIdeal.nD Cert.KernelIdeal.τ).loc Cert.KernelIdeal.main_v3_2) = v2 c
          ∧ r.2.mem ((c.tc : Thread Cert.KernelIdeal.nD Cert.KernelIdeal.τ).loc Cert.KernelIdeal.main_v3_1) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v290) = v0 c
          ∧ r.2.mem ((c.tc : Thread Cert.ReferenceIdeal.nD Cert.ReferenceIdeal.τ).loc Cert.ReferenceIdeal.main_v291) = v1 c
          ∧ r.2.mem ((c.tc : Thread Cert.ReferenceIdeal.nD Cert.ReferenceIdeal.τ).loc Cert.ReferenceIdeal.main_v292) = v2 c
          ∧ r.2.mem ((c.tc : Thread Cert.ReferenceIdeal.nD Cert.ReferenceIdeal.τ).loc Cert.ReferenceIdeal.main_v294) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4x1024x4096 : Shape := ⟨3, ![4, 1024, 4096]⟩
abbrev S2x4x512 : Shape := ⟨3, ![2, 4, 512]⟩
abbrev S2x4 : Shape := ⟨2, ![2, 4]⟩
abbrev S2x512x4 : Shape := ⟨3, ![2, 512, 4]⟩
abbrev S2x512 : Shape := ⟨2, ![2, 512]⟩
abbrev S_ : Shape := ⟨0, ![]⟩
abbrev S4 : Shape := ⟨1, ![4]⟩
abbrev S2x1x4 : Shape := ⟨3, ![2, 1, 4]⟩
abbrev S2x1x512 : Shape := ⟨3, ![2, 1, 512]⟩
abbrev S4x2x2x4096 : Shape := ⟨4, ![4, 2, 2, 4096]⟩
abbrev S2x1x2 : Shape := ⟨3, ![2, 1, 2]⟩
abbrev S1x512x4096 : Shape := ⟨3, ![1, 512, 4096]⟩
abbrev S1x4x512 : Shape := ⟨3, ![1, 4, 512]⟩
abbrev S1x1x4 : Shape := ⟨3, ![1, 1, 4]⟩
abbrev S1x512x4 : Shape := ⟨3, ![1, 512, 4]⟩
abbrev S1x1x512 : Shape := ⟨3, ![1, 1, 512]⟩
abbrev S1x1x2x4096 : Shape := ⟨4, ![1, 1, 2, 4096]⟩
abbrev S1x1x2 : Shape := ⟨3, ![1, 1, 2]⟩
abbrev S2x25x25 : Shape := ⟨3, ![2, 25, 25]⟩
abbrev S512x4096 : Shape := ⟨2, ![512, 4096]⟩
abbrev S4x512 : Shape := ⟨2, ![4, 512]⟩
abbrev S4x4096 : Shape := ⟨2, ![4, 4096]⟩
abbrev S1x4 : Shape := ⟨2, ![1, 4]⟩
abbrev S4x1 : Shape := ⟨2, ![4, 1]⟩
abbrev S512x4 : Shape := ⟨2, ![512, 4]⟩
abbrev S1x512 : Shape := ⟨2, ![1, 512]⟩
abbrev S512x1 : Shape := ⟨2, ![512, 1]⟩
abbrev S25x4096 : Shape := ⟨2, ![25, 4096]⟩
abbrev S1x4096 : Shape := ⟨2, ![1, 4096]⟩
abbrev S25x25 : Shape := ⟨2, ![25, 25]⟩
abbrev S1x25x25 : Shape := ⟨3, ![1, 25, 25]⟩
abbrev S2x4096 : Shape := ⟨2, ![2, 4096]⟩
abbrev S2 : Shape := ⟨1, ![2]⟩
abbrev S2x1x1 : Shape := ⟨3, ![2, 1, 1]⟩

abbrev nBuf : Space → Nat
  | .hbm => 12
  | .vmem => 17
  | .smem => 0
  | _ => 0

abbrev bufTy : (tb : Table) → Fin (tcTables nBuf tb) → BufTy
  | .hbm, ⟨0, _⟩ => ⟨S4x1024x4096, .f32⟩
  | .hbm, ⟨1, _⟩ => ⟨S2x4x512, .f32⟩
  | .hbm, ⟨2, _⟩ => ⟨S2x4, .f32⟩
  | .hbm, ⟨3, _⟩ => ⟨S2x512x4, .f32⟩
  | .hbm, ⟨4, _⟩ => ⟨S2x512, .f32⟩
  | .hbm, ⟨5, _⟩ => ⟨S_, .f32⟩
  | .hbm, ⟨6, _⟩ => ⟨S4, .f32⟩
  | .hbm, ⟨7, _⟩ => ⟨S2x1x4, .f32⟩
  | .hbm, ⟨8, _⟩ => ⟨S2x1x512, .f32⟩
  | .hbm, ⟨9, _⟩ => ⟨S4x1024x4096, .f32⟩
  | .hbm, ⟨10, _⟩ => ⟨S4x2x2x4096, .i32⟩
  | .hbm, ⟨11, _⟩ => ⟨S2x1x2, .f32⟩
  | .local _ .vmem, ⟨0, _⟩ => ⟨S1x512x4096, .f32⟩
  | .local _ .vmem, ⟨1, _⟩ => ⟨S1x512x4096, .f32⟩
  | .local _ .vmem, ⟨2, _⟩ => ⟨S1x4x512, .f32⟩
  | .local _ .vmem, ⟨3, _⟩ => ⟨S1x4x512, .f32⟩
  | .local _ .vmem, ⟨4, _⟩ => ⟨S1x1x4, .f32⟩
  | .local _ .vmem, ⟨5, _⟩ => ⟨S1x1x4, .f32⟩
  | .local _ .vmem, ⟨6, _⟩ => ⟨S1x512x4, .f32⟩
  | .local _ .vmem, ⟨7, _⟩ => ⟨S1x512x4, .f32⟩
  | .local _ .vmem, ⟨8, _⟩ => ⟨S1x1x512, .f32⟩
  | .local _ .vmem, ⟨9, _⟩ => ⟨S1x1x512, .f32⟩
  | .local _ .vmem, ⟨10, _⟩ => ⟨S1x512x4096, .f32⟩
  | .local _ .vmem, ⟨11, _⟩ => ⟨S1x512x4096, .f32⟩
  | .local _ .vmem, ⟨12, _⟩ => ⟨S1x1x2x4096, .i32⟩
  | .local _ .vmem, ⟨13, _⟩ => ⟨S1x1x2x4096, .i32⟩
  | .local _ .vmem, ⟨14, _⟩ => ⟨S1x1x2, .f32⟩
  | .local _ .vmem, ⟨15, _⟩ => ⟨S1x1x2, .f32⟩
  | .local _ .vmem, ⟨16, _⟩ => ⟨S2x25x25, .f32⟩
  | _, _ => ⟨S4x1024x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3_0 : Ref sig .tc := ⟨.hbm, 9, rfl⟩
abbrev main_v3_1 : Ref sig .tc := ⟨.hbm, 10, rfl⟩
abbrev main_v3_2 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨3, ![2, 4, 1], ![false, false, false]⟩

def k0_cond2 (i : grid0.Coords) : BitVec 1 :=
  let arg1 : BitVec 32 := BitVec.ofNat 32 (i 1).val
  let c3_i32 : BitVec 32 := 3#32
  let v113 : BitVec 1 := Scalar.cmpi .eq arg1 c3_i32
  let arg2 : BitVec 32 := BitVec.ofNat 32 (i 2).val
  let c0_i32_50 : BitVec 32 := 0#32
  let v114 : BitVec 1 := Scalar.cmpi .eq arg2 c0_i32_50
  let v115 : BitVec 1 := Scalar.andi v113 v114
  let v116 : BitVec 32 := Scalar.extui v115
  let c0_i32_51 : BitVec 32 := 0#32
  let v117 : BitVec 1 := Scalar.cmpi .ne v116 c0_i32_51
  v117

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat, arg2.toNat]

def cc0_transform_6 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, c0_i32.toNat, arg2.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x4x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, false]

abbrev stage0_2 : Fin 2 → Memref sig .tc .vmem S1x1x4 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 2 → Memref sig .tc .vmem S1x512x4 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]

abbrev stage0_4 : Fin 2 → Memref sig .tc .vmem S1x1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, false]

abbrev stage0_5 : Fin 2 → Memref sig .tc .vmem S1x512x4096 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S1x1x2x4096 .i32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]

abbrev stage0_7 : Fin 2 → Memref sig .tc .vmem S1x1x2 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false, false]
-- ==== ReferenceIdeal.lean ====
abbrev S4x1024x4096 : Shape := ⟨3, ![4, 1024, 4096]⟩
abbrev S2x4x512 : Shape := ⟨3, ![2, 4, 512]⟩
abbrev S2x4 : Shape := ⟨2, ![2, 4]⟩
abbrev S2x512x4 : Shape := ⟨3, ![2, 512, 4]⟩
abbrev S2x512 : Shape := ⟨2, ![2, 512]⟩
abbrev S4 : Shape := ⟨1, ![4]⟩
abbrev S4x4096x1024 : Shape := ⟨3, ![4, 4096, 1024]⟩
abbrev S4x4096x512 : Shape := ⟨3, ![4, 4096, 512]⟩
abbrev S1x4x512 : Shape := ⟨3, ![1, 4, 512]⟩
abbrev S4x512 : Shape := ⟨2, ![4, 512]⟩
abbrev S1x4 : Shape := ⟨2, ![1, 4]⟩
abbrev S1x512x4 : Shape := ⟨3, ![1, 512, 4]⟩
abbrev S512x4 : Shape := ⟨2, ![512, 4]⟩
abbrev S1x512 : Shape := ⟨2, ![1, 512]⟩
abbrev S512 : Shape := ⟨1, ![512]⟩
abbrev S4x4096x4 : Shape := ⟨3, ![4, 4096, 4]⟩
abbrev S1x1x4 : Shape := ⟨3, ![1, 1, 4]⟩
abbrev S_ : Shape := ⟨0, ![]⟩
abbrev S4x4096 : Shape := ⟨2, ![4, 4096]⟩
abbrev S1x1x512 : Shape := ⟨3, ![1, 1, 512]⟩
abbrev S4x4096x1 : Shape := ⟨3, ![4, 4096, 1]⟩
abbrev S4x4096x2 : Shape := ⟨3, ![4, 4096, 2]⟩
abbrev S1x4x4096x2 : Shape := ⟨4, ![1, 4, 4096, 2]⟩
abbrev S2x4x4096x2 : Shape := ⟨4, ![2, 4, 4096, 2]⟩
abbrev S4x4096x2x2 : Shape := ⟨4, ![4, 4096, 2, 2]⟩
abbrev S4x4096x4x1 : Shape := ⟨4, ![4, 4096, 4, 1]⟩
abbrev S1x1x1x625 : Shape := ⟨4, ![1, 1, 1, 625]⟩
abbrev S4x4096x4x625 : Shape := ⟨4, ![4, 4096, 4, 625]⟩
abbrev S4x625 : Shape := ⟨2, ![4, 625]⟩
abbrev S4x1 : Shape := ⟨2, ![4, 1]⟩
abbrev S2x1x2 : Shape := ⟨3, ![2, 1, 2]⟩
abbrev S4x4x4096 : Shape := ⟨3, ![4, 4, 4096]⟩
abbrev S4x2x2x4096 : Shape := ⟨4, ![4, 2, 2, 4096]⟩

abbrev nBuf : Space → Nat
  | .hbm => 432
  | .vmem => 0
  | .smem => 0
  | _ => 0

abbrev hbmTy0_0 (i : Nat) : BufTy := match i % 128 with
  | 0 => ⟨S4x1024x4096, .f32⟩
  | 1 => ⟨S2x4x512, .f32⟩
  | 2 => ⟨S2x4, .f32⟩
  | 3 => ⟨S2x512x4, .f32⟩
  | 4 => ⟨S2x512, .f32⟩
  | 5 => ⟨S4, .f32⟩
  | 6 => ⟨S4, .f32⟩
  | 7 => ⟨S4x4096x1024, .f32⟩
  | 8 => ⟨S4x4096x512, .f32⟩
  | 9 => ⟨S4x4096x512, .f32⟩
  | 10 => ⟨S1x4x512, .f32⟩
  | 11 => ⟨S4x512, .f32⟩
  | 12 => ⟨S1x4, .f32⟩
  | 13 => ⟨S4, .f32⟩
  | 14 => ⟨S1x512x4, .f32⟩
  | 15 => ⟨S512x4, .f32⟩
  | 16 => ⟨S1x512, .f32⟩
  | 17 => ⟨S512, .f32⟩
  | 18 => ⟨S4x4096x4, .f32⟩
  | 19 => ⟨S1x1x4, .f32⟩
  | 20 => ⟨S4x4096x4, .f32⟩
  | 21 => ⟨S4x4096x4, .f32⟩
  | 22 => ⟨S_, .f32⟩
  | 23 => ⟨S4x4096x4, .f32⟩
  | 24 => ⟨S_, .f32⟩
  | 25 => ⟨S4, .f32⟩
  | 26 => ⟨S4, .f32⟩
  | 27 => ⟨S_, .f32⟩
  | 28 => ⟨S4, .f32⟩
  | 29 => ⟨S4, .f32⟩
  | 30 => ⟨S1x1x4, .f32⟩
  | 31 => ⟨S4x4096x4, .f32⟩
  | 32 => ⟨S4x4096x4, .f32⟩
  | 33 => ⟨S_, .f32⟩
  | 34 => ⟨S4, .f32⟩
  | 35 => ⟨S4, .f32⟩
  | 36 => ⟨S4, .f32⟩
  | 37 => ⟨S_, .f32⟩
  | 38 => ⟨S4, .f32⟩
  | 39 => ⟨S4, .f32⟩
  | 40 => ⟨S_, .f32⟩
  | 41 => ⟨S4, .f32⟩
  | 42 => ⟨S4, .f32⟩
  | 43 => ⟨S_, .f32⟩
  | 44 => ⟨S4, .f32⟩
  | 45 => ⟨S4, .f32⟩
  | 46 => ⟨S_, .f32⟩
  | 47 => ⟨S_, .f32⟩
  | 48 => ⟨S4, .f32⟩
  | 49 => ⟨S4, .f32⟩
  | 50 => ⟨S_, .f32⟩
  | 51 => ⟨S4, .f32⟩
  | 52 => ⟨S4, .i1⟩
  | 53 => ⟨S_, .f32⟩
  | 54 => ⟨S4, .f32⟩
  | 55 => ⟨S4, .i1⟩
  | 56 => ⟨S_, .f32⟩
  | 57 => ⟨S_, .i1⟩
  | 58 => ⟨S4, .i1⟩
  | 59 => ⟨S4, .i1⟩
  | 60 => ⟨S4, .i1⟩
  | 61 => ⟨S4, .f32⟩
  | 62 => ⟨S4, .f32⟩
  | 63 => ⟨S4, .f32⟩
  | 64 => ⟨S_, .f32⟩
  | 65 => ⟨S4, .f32⟩
  | 66 => ⟨S4, .i1⟩
  | 67 => ⟨S_, .f32⟩
  | 68 => ⟨S_, .f32⟩
  | 69 => ⟨S4, .f32⟩
  | 70 => ⟨S4, .f32⟩
  | 71 => ⟨S4, .f32⟩
  | 72 => ⟨S4, .f32⟩
  | 73 => ⟨S4, .f32⟩
  | 74 => ⟨S4, .f32⟩
  | 75 => ⟨S1x1x4, .f32⟩
  | 76 => ⟨S4x4096x4, .f32⟩
  | 77 => ⟨S4x4096x4, .f32⟩
  | 78 => ⟨S4x4096x4, .f32⟩
  | 79 => ⟨S1x1x4, .f32⟩
  | 80 => ⟨S4x4096x4, .f32⟩
  | 81 => ⟨S4x4096x4, .f32⟩
  | 82 => ⟨S4, .f32⟩
  | 83 => ⟨S1x1x4, .f32⟩
  | 84 => ⟨S4x4096x4, .f32⟩
  | 85 => ⟨S4x4096x4, .f32⟩
  | 86 => ⟨S4x4096x4, .f32⟩
  | 87 => ⟨S4x4096x4, .f32⟩
  | 88 => ⟨S4x4096x4, .f32⟩
  | 89 => ⟨S1x1x4, .f32⟩
  | 90 => ⟨S4x4096x4, .f32⟩
  | 91 => ⟨S4x4096x4, .f32⟩
  | 92 => ⟨S1x1x4, .f32⟩
  | 93 => ⟨S4x4096x4, .f32⟩
  | 94 => ⟨S4x4096x4, .f32⟩
  | 95 => ⟨S1x1x4, .f32⟩
  | 96 => ⟨S4x4096x4, .f32⟩
  | 97 => ⟨S4x4096x4, .f32⟩
  | 98 => ⟨S1x1x4, .f32⟩
  | 99 => ⟨S4x4096x4, .f32⟩
  | 100 => ⟨S4x4096x4, .f32⟩
  | 101 => ⟨S_, .f32⟩
  | 102 => ⟨S4x4096, .f32⟩
  | 103 => ⟨S4x4096, .i32⟩
  | 104 => ⟨S1x1x4, .f32⟩
  | 105 => ⟨S4x4096x4, .f32⟩
  | 106 => ⟨S4x4096x4, .f32⟩
  | 107 => ⟨S4x4096x4, .f32⟩
  | 108 => ⟨S4x4096x4, .f32⟩
  | 109 => ⟨S_, .f32⟩
  | 110 => ⟨S4, .f32⟩
  | 111 => ⟨S4, .f32⟩
  | 112 => ⟨S_, .f32⟩
  | 113 => ⟨S4, .f32⟩
  | 114 => ⟨S4, .f32⟩
  | 115 => ⟨S1x1x4, .f32⟩
  | 116 => ⟨S4x4096x4, .f32⟩
  | 117 => ⟨S4x4096x4, .f32⟩
  | 118 => ⟨S_, .f32⟩
  | 119 => ⟨S4, .f32⟩
  | 120 => ⟨S4, .f32⟩
  | 121 => ⟨S4, .f32⟩
  | 122 => ⟨S_, .f32⟩
  | 123 => ⟨S4, .f32⟩
  | 124 => ⟨S4, .f32⟩
  | 125 => ⟨S_, .f32⟩
  | 126 => ⟨S4, .f32⟩
  | 127 => ⟨S4, .f32⟩
  | _ => ⟨S4x1024x4096, .f32⟩

abbrev hbmTy0_1 (i : Nat) : BufTy := match i % 128 with
  | 0 => ⟨S_, .f32⟩
  | 1 => ⟨S4, .f32⟩
  | 2 => ⟨S4, .f32⟩
  | 3 => ⟨S_, .f32⟩
  | 4 => ⟨S_, .f32⟩
  | 5 => ⟨S4, .f32⟩
  | 6 => ⟨S4, .f32⟩
  | 7 => ⟨S_, .f32⟩
  | 8 => ⟨S4, .f32⟩
  | 9 => ⟨S4, .i1⟩
  | 10 => ⟨S_, .f32⟩
  | 11 => ⟨S4, .f32⟩
  | 12 => ⟨S4, .i1⟩
  | 13 => ⟨S_, .f32⟩
  | 14 => ⟨S_, .i1⟩
  | 15 => ⟨S4, .i1⟩
  | 16 => ⟨S4, .i1⟩
  | 17 => ⟨S4, .i1⟩
  | 18 => ⟨S4, .f32⟩
  | 19 => ⟨S4, .f32⟩
  | 20 => ⟨S4, .f32⟩
  | 21 => ⟨S_, .f32⟩
  | 22 => ⟨S4, .f32⟩
  | 23 => ⟨S4, .i1⟩
  | 24 => ⟨S_, .f32⟩
  | 25 => ⟨S_, .f32⟩
  | 26 => ⟨S4, .f32⟩
  | 27 => ⟨S4, .f32⟩
  | 28 => ⟨S4, .f32⟩
  | 29 => ⟨S4, .f32⟩
  | 30 => ⟨S4, .f32⟩
  | 31 => ⟨S4, .f32⟩
  | 32 => ⟨S1x1x4, .f32⟩
  | 33 => ⟨S4x4096x4, .f32⟩
  | 34 => ⟨S4x4096x4, .f32⟩
  | 35 => ⟨S4x4096x4, .f32⟩
  | 36 => ⟨S1x1x4, .f32⟩
  | 37 => ⟨S4x4096x4, .f32⟩
  | 38 => ⟨S4x4096x4, .f32⟩
  | 39 => ⟨S4, .f32⟩
  | 40 => ⟨S1x1x4, .f32⟩
  | 41 => ⟨S4x4096x4, .f32⟩
  | 42 => ⟨S4x4096x4, .f32⟩
  | 43 => ⟨S4x4096x4, .f32⟩
  | 44 => ⟨S4x4096x4, .f32⟩
  | 45 => ⟨S4x4096x4, .f32⟩
  | 46 => ⟨S1x1x4, .f32⟩
  | 47 => ⟨S4x4096x4, .f32⟩
  | 48 => ⟨S4x4096x4, .f32⟩
  | 49 => ⟨S1x1x4, .f32⟩
  | 50 => ⟨S4x4096x4, .f32⟩
  | 51 => ⟨S4x4096x4, .f32⟩
  | 52 => ⟨S1x1x4, .f32⟩
  | 53 => ⟨S4x4096x4, .f32⟩
  | 54 => ⟨S4x4096x4, .f32⟩
  | 55 => ⟨S1x1x4, .f32⟩
  | 56 => ⟨S4x4096x4, .f32⟩
  | 57 => ⟨S4x4096x4, .f32⟩
  | 58 => ⟨S_, .f32⟩
  | 59 => ⟨S4x4096, .f32⟩
  | 60 => ⟨S4x4096, .i32⟩
  | 61 => ⟨S1x1x4, .f32⟩
  | 62 => ⟨S4x4096x4, .f32⟩
  | 63 => ⟨S4x4096x4, .f32⟩
  | 64 => ⟨S4x4096x4, .f32⟩
  | 65 => ⟨S4x4096x4, .f32⟩
  | 66 => ⟨S4x4096x512, .f32⟩
  | 67 => ⟨S1x1x512, .f32⟩
  | 68 => ⟨S4x4096x512, .f32⟩
  | 69 => ⟨S4x4096x512, .f32⟩
  | 70 => ⟨S4x4096x1, .i32⟩
  | 71 => ⟨S4x4096x1, .i32⟩
  | 72 => ⟨S4x4096x2, .i32⟩
  | 73 => ⟨S1x4x512, .f32⟩
  | 74 => ⟨S4x512, .f32⟩
  | 75 => ⟨S1x4, .f32⟩
  | 76 => ⟨S4, .f32⟩
  | 77 => ⟨S1x512x4, .f32⟩
  | 78 => ⟨S512x4, .f32⟩
  | 79 => ⟨S1x512, .f32⟩
  | 80 => ⟨S512, .f32⟩
  | 81 => ⟨S4x4096x4, .f32⟩
  | 82 => ⟨S1x1x4, .f32⟩
  | 83 => ⟨S4x4096x4, .f32⟩
  | 84 => ⟨S4x4096x4, .f32⟩
  | 85 => ⟨S_, .f32⟩
  | 86 => ⟨S4x4096x4, .f32⟩
  | 87 => ⟨S_, .f32⟩
  | 88 => ⟨S4, .f32⟩
  | 89 => ⟨S4, .f32⟩
  | 90 => ⟨S_, .f32⟩
  | 91 => ⟨S4, .f32⟩
  | 92 => ⟨S4, .f32⟩
  | 93 => ⟨S1x1x4, .f32⟩
  | 94 => ⟨S4x4096x4, .f32⟩
  | 95 => ⟨S4x4096x4, .f32⟩
  | 96 => ⟨S_, .f32⟩
  | 97 => ⟨S4, .f32⟩
  | 98 => ⟨S4, .f32⟩
  | 99 => ⟨S4, .f32⟩
  | 100 => ⟨S_, .f32⟩
  | 101 => ⟨S4, .f32⟩
  | 102 => ⟨S4, .f32⟩
  | 103 => ⟨S_, .f32⟩
  | 104 => ⟨S4, .f32⟩
  | 105 => ⟨S4, .f32⟩
  | 106 => ⟨S_, .f32⟩
  | 107 => ⟨S4, .f32⟩
  | 108 => ⟨S4, .f32⟩
  | 109 => ⟨S_, .f32⟩
  | 110 => ⟨S_, .f32⟩
  | 111 => ⟨S4, .f32⟩
  | 112 => ⟨S4, .f32⟩
  | 113 => ⟨S_, .f32⟩
  | 114 => ⟨S4, .f32⟩
  | 115 => ⟨S4, .i1⟩
  | 116 => ⟨S_, .f32⟩
  | 117 => ⟨S4, .f32⟩
  | 118 => ⟨S4, .i1⟩
  | 119 => ⟨S_, .f32⟩
  | 120 => ⟨S_, .i1⟩
  | 121 => ⟨S4, .i1⟩
  | 122 => ⟨S4, .i1⟩
  | 123 => ⟨S4, .i1⟩
  | 124 => ⟨S4, .f32⟩
  | 125 => ⟨S4, .f32⟩
  | 126 => ⟨S4, .f32⟩
  | 127 => ⟨S_, .f32⟩
  | _ => ⟨S4x1024x4096, .f32⟩

abbrev hbmTy0_2 (i : Nat) : BufTy := match i % 128 with
  | 0 => ⟨S4, .f32⟩
  | 1 => ⟨S4, .i1⟩
  | 2 => ⟨S_, .f32⟩
  | 3 => ⟨S_, .f32⟩
  | 4 => ⟨S4, .f32⟩
  | 5 => ⟨S4, .f32⟩
  | 6 => ⟨S4, .f32⟩
  | 7 => ⟨S4, .f32⟩
  | 8 => ⟨S4, .f32⟩
  | 9 => ⟨S4, .f32⟩
  | 10 => ⟨S1x1x4, .f32⟩
  | 11 => ⟨S4x4096x4, .f32⟩
  | 12 => ⟨S4x4096x4, .f32⟩
  | 13 => ⟨S4x4096x4, .f32⟩
  | 14 => ⟨S1x1x4, .f32⟩
  | 15 => ⟨S4x4096x4, .f32⟩
  | 16 => ⟨S4x4096x4, .f32⟩
  | 17 => ⟨S4, .f32⟩
  | 18 => ⟨S1x1x4, .f32⟩
  | 19 => ⟨S4x4096x4, .f32⟩
  | 20 => ⟨S4x4096x4, .f32⟩
  | 21 => ⟨S4x4096x4, .f32⟩
  | 22 => ⟨S4x4096x4, .f32⟩
  | 23 => ⟨S4x4096x4, .f32⟩
  | 24 => ⟨S1x1x4, .f32⟩
  | 25 => ⟨S4x4096x4, .f32⟩
  | 26 => ⟨S4x4096x4, .f32⟩
  | 27 => ⟨S1x1x4, .f32⟩
  | 28 => ⟨S4x4096x4, .f32⟩
  | 29 => ⟨S4x4096x4, .f32⟩
  | 30 => ⟨S1x1x4, .f32⟩
  | 31 => ⟨S4x4096x4, .f32⟩
  | 32 => ⟨S4x4096x4, .f32⟩
  | 33 => ⟨S1x1x4, .f32⟩
  | 34 => ⟨S4x4096x4, .f32⟩
  | 35 => ⟨S4x4096x4, .f32⟩
  | 36 => ⟨S_, .f32⟩
  | 37 => ⟨S4x4096, .f32⟩
  | 38 => ⟨S4x4096, .i32⟩
  | 39 => ⟨S1x1x4, .f32⟩
  | 40 => ⟨S4x4096x4, .f32⟩
  | 41 => ⟨S4x4096x4, .f32⟩
  | 42 => ⟨S4x4096x4, .f32⟩
  | 43 => ⟨S4x4096x4, .f32⟩
  | 44 => ⟨S_, .f32⟩
  | 45 => ⟨S4, .f32⟩
  | 46 => ⟨S4, .f32⟩
  | 47 => ⟨S_, .f32⟩
  | 48 => ⟨S4, .f32⟩
  | 49 => ⟨S4, .f32⟩
  | 50 => ⟨S1x1x4, .f32⟩
  | 51 => ⟨S4x4096x4, .f32⟩
  | 52 => ⟨S4x4096x4, .f32⟩
  | 53 => ⟨S_, .f32⟩
  | 54 => ⟨S4, .f32⟩
  | 55 => ⟨S4, .f32⟩
  | 56 => ⟨S4, .f32⟩
  | 57 => ⟨S_, .f32⟩
  | 58 => ⟨S4, .f32⟩
  | 59 => ⟨S4, .f32⟩
  | 60 => ⟨S_, .f32⟩
  | 61 => ⟨S4, .f32⟩
  | 62 => ⟨S4, .f32⟩
  | 63 => ⟨S_, .f32⟩
  | 64 => ⟨S4, .f32⟩
  | 65 => ⟨S4, .f32⟩
  | 66 => ⟨S_, .f32⟩
  | 67 => ⟨S_, .f32⟩
  | 68 => ⟨S4, .f32⟩
  | 69 => ⟨S4, .f32⟩
  | 70 => ⟨S_, .f32⟩
  | 71 => ⟨S4, .f32⟩
  | 72 => ⟨S4, .i1⟩
  | 73 => ⟨S_, .f32⟩
  | 74 => ⟨S4, .f32⟩
  | 75 => ⟨S4, .i1⟩
  | 76 => ⟨S_, .f32⟩
  | 77 => ⟨S_, .i1⟩
  | 78 => ⟨S4, .i1⟩
  | 79 => ⟨S4, .i1⟩
  | 80 => ⟨S4, .i1⟩
  | 81 => ⟨S4, .f32⟩
  | 82 => ⟨S4, .f32⟩
  | 83 => ⟨S4, .f32⟩
  | 84 => ⟨S_, .f32⟩
  | 85 => ⟨S4, .f32⟩
  | 86 => ⟨S4, .i1⟩
  | 87 => ⟨S_, .f32⟩
  | 88 => ⟨S_, .f32⟩
  | 89 => ⟨S4, .f32⟩
  | 90 => ⟨S4, .f32⟩
  | 91 => ⟨S4, .f32⟩
  | 92 => ⟨S4, .f32⟩
  | 93 => ⟨S4, .f32⟩
  | 94 => ⟨S4, .f32⟩
  | 95 => ⟨S1x1x4, .f32⟩
  | 96 => ⟨S4x4096x4, .f32⟩
  | 97 => ⟨S4x4096x4, .f32⟩
  | 98 => ⟨S4x4096x4, .f32⟩
  | 99 => ⟨S1x1x4, .f32⟩
  | 100 => ⟨S4x4096x4, .f32⟩
  | 101 => ⟨S4x4096x4, .f32⟩
  | 102 => ⟨S4, .f32⟩
  | 103 => ⟨S1x1x4, .f32⟩
  | 104 => ⟨S4x4096x4, .f32⟩
  | 105 => ⟨S4x4096x4, .f32⟩
  | 106 => ⟨S4x4096x4, .f32⟩
  | 107 => ⟨S4x4096x4, .f32⟩
  | 108 => ⟨S4x4096x4, .f32⟩
  | 109 => ⟨S1x1x4, .f32⟩
  | 110 => ⟨S4x4096x4, .f32⟩
  | 111 => ⟨S4x4096x4, .f32⟩
  | 112 => ⟨S1x1x4, .f32⟩
  | 113 => ⟨S4x4096x4, .f32⟩
  | 114 => ⟨S4x4096x4, .f32⟩
  | 115 => ⟨S1x1x4, .f32⟩
  | 116 => ⟨S4x4096x4, .f32⟩
  | 117 => ⟨S4x4096x4, .f32⟩
  | 118 => ⟨S1x1x4, .f32⟩
  | 119 => ⟨S4x4096x4, .f32⟩
  | 120 => ⟨S4x4096x4, .f32⟩
  | 121 => ⟨S_, .f32⟩
  | 122 => ⟨S4x4096, .f32⟩
  | 123 => ⟨S4x4096, .i32⟩
  | 124 => ⟨S1x1x4, .f32⟩
  | 125 => ⟨S4x4096x4, .f32⟩
  | 126 => ⟨S4x4096x4, .f32⟩
  | 127 => ⟨S4x4096x4, .f32⟩
  | _ => ⟨S4x1024x4096, .f32⟩

abbrev hbmTy0_3 (i : Nat) : BufTy := match i % 128 with
  | 0 => ⟨S4x4096x4, .f32⟩
  | 1 => ⟨S4x4096x512, .f32⟩
  | 2 => ⟨S1x1x512, .f32⟩
  | 3 => ⟨S4x4096x512, .f32⟩
  | 4 => ⟨S4x4096x512, .f32⟩
  | 5 => ⟨S4x4096x1, .i32⟩
  | 6 => ⟨S4x4096x1, .i32⟩
  | 7 => ⟨S4x4096x2, .i32⟩
  | 8 => ⟨S4x4096x1024, .f32⟩
  | 9 => ⟨S1x4x4096x2, .i32⟩
  | 10 => ⟨S1x4x4096x2, .i32⟩
  | 11 => ⟨S2x4x4096x2, .i32⟩
  | 12 => ⟨S4x4096x2x2, .i32⟩
  | 13 => ⟨S4x4096x4, .i32⟩
  | 14 => ⟨S4x4096x4x1, .i32⟩
  | 15 => ⟨S1x1x1x625, .i32⟩
  | 16 => ⟨S4x4096x4x625, .i32⟩
  | 17 => ⟨S4x4096x4x625, .i32⟩
  | 18 => ⟨S4x4096x4x625, .i1⟩
  | 19 => ⟨S4x4096x4x625, .f32⟩
  | 20 => ⟨S_, .f32⟩
  | 21 => ⟨S4x625, .f32⟩
  | 22 => ⟨S_, .f32⟩
  | 23 => ⟨S4x625, .f32⟩
  | 24 => ⟨S4x625, .f32⟩
  | 25 => ⟨S_, .f32⟩
  | 26 => ⟨S4, .f32⟩
  | 27 => ⟨S4x1, .f32⟩
  | 28 => ⟨S_, .f32⟩
  | 29 => ⟨S4x1, .f32⟩
  | 30 => ⟨S4x1, .f32⟩
  | 31 => ⟨S4x625, .f32⟩
  | 32 => ⟨S4x625, .f32⟩
  | 33 => ⟨S_, .f32⟩
  | 34 => ⟨S4x625, .f32⟩
  | 35 => ⟨S4x625, .f32⟩
  | 36 => ⟨S4x625, .f32⟩
  | 37 => ⟨S4x625, .f32⟩
  | 38 => ⟨S_, .f32⟩
  | 39 => ⟨S4, .f32⟩
  | 40 => ⟨S4, .f32⟩
  | 41 => ⟨S4, .f32⟩
  | 42 => ⟨S_, .f32⟩
  | 43 => ⟨S4, .f32⟩
  | 44 => ⟨S4x1024x4096, .f32⟩
  | 45 => ⟨S2x1x2, .f32⟩
  | 46 => ⟨S4x4x4096, .i32⟩
  | 47 => ⟨S4x2x2x4096, .i32⟩
  | _ => ⟨S4x1024x4096, .f32⟩

abbrev hbmTy (i : Nat) : BufTy := match i / 128 with
  | 0 => hbmTy0_0 i
  | 1 => hbmTy0_1 i
  | 2 => hbmTy0_2 i
  | 3 => hbmTy0_3 i
  | _ => ⟨S4x1024x4096, .f32⟩

abbrev bufTy : (tb : Table) → Fin (tcTables nBuf tb) → BufTy
  | .hbm, ⟨i, _⟩ => hbmTy i
  | _, _ => ⟨S4x1024x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_cst_0 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst_1 : Ref sig .tc := ⟨.hbm, 22, rfl⟩
abbrev main_v15 : Ref sig .tc := ⟨.hbm, 23, rfl⟩
abbrev main_cst_2 : Ref sig .tc := ⟨.hbm, 24, rfl⟩
abbrev main_v16 : Ref sig .tc := ⟨.hbm, 25, rfl⟩
abbrev main_v17 : Ref sig .tc := ⟨.hbm, 26, rfl⟩
abbrev main_cst_3 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_cst_5 : Ref sig .tc := ⟨.hbm, 37, rfl⟩
abbrev main_v26 : Ref sig .tc := ⟨.hbm, 38, rfl⟩
abbrev main_v27 : Ref sig .tc := ⟨.hbm, 39, rfl⟩
abbrev main_cst_6 : Ref sig .tc := ⟨.hbm, 40, rfl⟩
abbrev main_v28 : Ref sig .tc := ⟨.hbm, 41, rfl⟩
abbrev main_v29 : Ref sig .tc := ⟨.hbm, 42, rfl⟩
abbrev main_cst_7 : Ref sig .tc := ⟨.hbm, 43, rfl⟩
abbrev main_v30 : Ref sig .tc := ⟨.hbm, 44, rfl⟩
abbrev main_v31 : Ref sig .tc := ⟨.hbm, 45, rfl⟩
abbrev main_cst_8 : Ref sig .tc := ⟨.hbm, 46, rfl⟩
abbrev main_call0_v0 : Ref sig .tc := ⟨.hbm, 47, rfl⟩
abbrev main_call0_v1 : Ref sig .tc := ⟨.hbm, 48, rfl⟩
abbrev main_call0_v2 : Ref sig .tc := ⟨.hbm, 49, rfl⟩
abbrev main_call0_cst : Ref sig .tc := ⟨.hbm, 50, rfl⟩
abbrev main_call0_v3 : Ref sig .tc := ⟨.hbm, 51, rfl⟩
abbrev main_call0_v4 : Ref sig .tc := ⟨.hbm, 52, rfl⟩
abbrev main_call0_cst_0 : Ref sig .tc := ⟨.hbm, 53, rfl⟩
abbrev main_call0_v5 : Ref sig .tc := ⟨.hbm, 54, rfl⟩
abbrev main_call0_v6 : Ref sig .tc := ⟨.hbm, 55, rfl⟩
abbrev main_call0_cst_1 : Ref sig .tc := ⟨.hbm, 56, rfl⟩
abbrev main_call0_v7 : Ref sig .tc := ⟨.hbm, 57, rfl⟩
abbrev main_call0_v8 : Ref sig .tc := ⟨.hbm, 58, rfl⟩
abbrev main_call0_v9 : Ref sig .tc := ⟨.hbm, 59, rfl⟩
abbrev main_call0_v10 : Ref sig .tc := ⟨.hbm, 60, rfl⟩
abbrev main_call0_v11 : Ref sig .tc := ⟨.hbm, 61, rfl⟩
abbrev main_call0_v12 : Ref sig .tc := ⟨.hbm, 62, rfl⟩
abbrev main_v32 : Ref sig .tc := ⟨.hbm, 63, rfl⟩
abbrev main_cst_9 : Ref sig .tc := ⟨.hbm, 64, rfl⟩
abbrev main_v33 : Ref sig .tc := ⟨.hbm, 65, rfl⟩
abbrev main_v34 : Ref sig .tc := ⟨.hbm, 66, rfl⟩
abbrev main_cst_10 : Ref sig .tc := ⟨.hbm, 67, rfl⟩
abbrev main_cst_11 : Ref sig .tc := ⟨.hbm, 68, rfl⟩
abbrev main_call1_v0 : Ref sig .tc := ⟨.hbm, 69, rfl⟩
abbrev main_call1_v1 : Ref sig .tc := ⟨.hbm, 70, rfl⟩
abbrev main_v35 : Ref sig .tc := ⟨.hbm, 71, rfl⟩
abbrev main_v36 : Ref sig .tc := ⟨.hbm, 72, rfl⟩
abbrev main_v37 : Ref sig .tc := ⟨.hbm, 73, rfl⟩
abbrev main_v38 : Ref sig .tc := ⟨.hbm, 74, rfl⟩
abbrev main_v39 : Ref sig .tc := ⟨.hbm, 75, rfl⟩
abbrev main_v40 : Ref sig .tc := ⟨.hbm, 76, rfl⟩
abbrev main_v41 : Ref sig .tc := ⟨.hbm, 77, rfl⟩
abbrev main_v42 : Ref sig .tc := ⟨.hbm, 78, rfl⟩
abbrev main_v43 : Ref sig .tc := ⟨.hbm, 79, rfl⟩
abbrev main_v44 : Ref sig .tc := ⟨.hbm, 80, rfl⟩
abbrev main_v45 : Ref sig .tc := ⟨.hbm, 81, rfl⟩
abbrev main_v46 : Ref sig .tc := ⟨.hbm, 82, rfl⟩
abbrev main_v47 : Ref sig .tc := ⟨.hbm, 83, rfl⟩
abbrev main_v48 : Ref sig .tc := ⟨.hbm, 84, rfl⟩
abbrev main_v49 : Ref sig .tc := ⟨.hbm, 85, rfl⟩
abbrev main_v50 : Ref sig .tc := ⟨.hbm, 86, rfl⟩
abbrev main_v51 : Ref sig .tc := ⟨.hbm, 87, rfl⟩
abbrev main_v52 : Ref sig .tc := ⟨.hbm, 88, rfl⟩
abbrev main_v53 : Ref sig .tc := ⟨.hbm, 89, rfl⟩
abbrev main_v54 : Ref sig .tc := ⟨.hbm, 90, rfl⟩
abbrev main_v55 : Ref sig .tc := ⟨.hbm, 91, rfl⟩
abbrev main_v56 : Ref sig .tc := ⟨.hbm, 92, rfl⟩
abbrev main_v57 : Ref sig .tc := ⟨.hbm, 93, rfl⟩
abbrev main_v58 : Ref sig .tc := ⟨.hbm, 94, rfl⟩
abbrev main_v59 : Ref sig .tc := ⟨.hbm, 95, rfl⟩
abbrev main_v60 : Ref sig .tc := ⟨.hbm, 96, rfl⟩
abbrev main_v61 : Ref sig .tc := ⟨.hbm, 97, rfl⟩
abbrev main_v62 : Ref sig .tc := ⟨.hbm, 98, rfl⟩
abbrev main_v63 : Ref sig .tc := ⟨.hbm, 99, rfl⟩
abbrev main_v64 : Ref sig .tc := ⟨.hbm, 100, rfl⟩
abbrev main_cst_12 : Ref sig .tc := ⟨.hbm, 101, rfl⟩
abbrev main_v65 : Ref sig .tc := ⟨.hbm, 102, rfl⟩
abbrev main_v66 : Ref sig .tc := ⟨.hbm, 103, rfl⟩
abbrev main_v67 : Ref sig .tc := ⟨.hbm, 104, rfl⟩
abbrev main_v68 : Ref sig .tc := ⟨.hbm, 105, rfl⟩
abbrev main_v69 : Ref sig .tc := ⟨.hbm, 106, rfl⟩
abbrev main_v70 : Ref sig .tc := ⟨.hbm, 107, rfl⟩
abbrev main_v71 : Ref sig .tc := ⟨.hbm, 108, rfl⟩
abbrev main_cst_13 : Ref sig .tc := ⟨.hbm, 109, rfl⟩
abbrev main_v72 : Ref sig .tc := ⟨.hbm, 110, rfl⟩
abbrev main_v73 : Ref sig .tc := ⟨.hbm, 111, rfl⟩
abbrev main_cst_14 : Ref sig .tc := ⟨.hbm, 112, rfl⟩
abbrev main_v74 : Ref sig .tc := ⟨.hbm, 113, rfl⟩
abbrev main_v75 : Ref sig .tc := ⟨.hbm, 114, rfl⟩
abbrev main_v76 : Ref sig .tc := ⟨.hbm, 115, rfl⟩
abbrev main_v77 : Ref sig .tc := ⟨.hbm, 116, rfl⟩
abbrev main_v78 : Ref sig .tc := ⟨.hbm, 117, rfl⟩
abbrev main_cst_15 : Ref sig .tc := ⟨.hbm, 118, rfl⟩
abbrev main_v79 : Ref sig .tc := ⟨.hbm, 119, rfl⟩
abbrev main_v80 : Ref sig .tc := ⟨.hbm, 120, rfl⟩
abbrev main_v81 : Ref sig .tc := ⟨.hbm, 121, rfl⟩
abbrev main_cst_16 : Ref sig .tc := ⟨.hbm, 122, rfl⟩
abbrev main_v82 : Ref sig .tc := ⟨.hbm, 123, rfl⟩
abbrev main_v83 : Ref sig .tc := ⟨.hbm, 124, rfl⟩
abbrev main_cst_17 : Ref sig .tc := ⟨.hbm, 125, rfl⟩
abbrev main_v84 : Ref sig .tc := ⟨.hbm, 126, rfl⟩
abbrev main_v85 : Ref sig .tc := ⟨.hbm, 127, rfl⟩
abbrev main_cst_18 : Ref sig .tc := ⟨.hbm, 128, rfl⟩
abbrev main_v86 : Ref sig .tc := ⟨.hbm, 129, rfl⟩
abbrev main_v87 : Ref sig .tc := ⟨.hbm, 130, rfl⟩
abbrev main_cst_19 : Ref sig .tc := ⟨.hbm, 131, rfl⟩
abbrev main_call3_v0 : Ref sig .tc := ⟨.hbm, 132, rfl⟩
abbrev main_call3_v1 : Ref sig .tc := ⟨.hbm, 133, rfl⟩
abbrev main_call3_v2 : Ref sig .tc := ⟨.hbm, 134, rfl⟩
abbrev main_call3_cst : Ref sig .tc := ⟨.hbm, 135, rfl⟩
abbrev main_call3_v3 : Ref sig .tc := ⟨.hbm, 136, rfl⟩
abbrev main_call3_v4 : Ref sig .tc := ⟨.hbm, 137, rfl⟩
abbrev main_call3_cst_0 : Ref sig .tc := ⟨.hbm, 138, rfl⟩
abbrev main_call3_v5 : Ref sig .tc := ⟨.hbm, 139, rfl⟩
abbrev main_call3_v6 : Ref sig .tc := ⟨.hbm, 140, rfl⟩
abbrev main_call3_cst_1 : Ref sig .tc := ⟨.hbm, 141, rfl⟩
abbrev main_call3_v7 : Ref sig .tc := ⟨.hbm, 142, rfl⟩
abbrev main_call3_v8 : Ref sig .tc := ⟨.hbm, 143, rfl⟩
abbrev main_call3_v9 : Ref sig .tc := ⟨.hbm, 144, rfl⟩
abbrev main_call3_v10 : Ref sig .tc := ⟨.hbm, 145, rfl⟩
abbrev main_call3_v11 : Ref sig .tc := ⟨.hbm, 146, rfl⟩
abbrev main_call3_v12 : Ref sig .tc := ⟨.hbm, 147, rfl⟩
abbrev main_v88 : Ref sig .tc := ⟨.hbm, 148, rfl⟩
abbrev main_cst_20 : Ref sig .tc := ⟨.hbm, 149, rfl⟩
abbrev main_v89 : Ref sig .tc := ⟨.hbm, 150, rfl⟩
abbrev main_v90 : Ref sig .tc := ⟨.hbm, 151, rfl⟩
abbrev main_cst_21 : Ref sig .tc := ⟨.hbm, 152, rfl⟩
abbrev main_cst_22 : Ref sig .tc := ⟨.hbm, 153, rfl⟩
abbrev main_call4_v0 : Ref sig .tc := ⟨.hbm, 154, rfl⟩
abbrev main_call4_v1 : Ref sig .tc := ⟨.hbm, 155, rfl⟩
abbrev main_v91 : Ref sig .tc := ⟨.hbm, 156, rfl⟩
abbrev main_v92 : Ref sig .tc := ⟨.hbm, 157, rfl⟩
abbrev main_v93 : Ref sig .tc := ⟨.hbm, 158, rfl⟩
abbrev main_v94 : Ref sig .tc := ⟨.hbm, 159, rfl⟩
abbrev main_v95 : Ref sig .tc := ⟨.hbm, 160, rfl⟩
abbrev main_v96 : Ref sig .tc := ⟨.hbm, 161, rfl⟩
abbrev main_v97 : Ref sig .tc := ⟨.hbm, 162, rfl⟩
abbrev main_v98 : Ref sig .tc := ⟨.hbm, 163, rfl⟩
abbrev main_v99 : Ref sig .tc := ⟨.hbm, 164, rfl⟩
abbrev main_v100 : Ref sig .tc := ⟨.hbm, 165, rfl⟩
abbrev main_v101 : Ref sig .tc := ⟨.hbm, 166, rfl⟩
abbrev main_v102 : Ref sig .tc := ⟨.hbm, 167, rfl⟩
abbrev main_v103 : Ref sig .tc := ⟨.hbm, 168, rfl⟩
abbrev main_v104 : Ref sig .tc := ⟨.hbm, 169, rfl⟩
abbrev main_v105 : Ref sig .tc := ⟨.hbm, 170, rfl⟩
abbrev main_v106 : Ref sig .tc := ⟨.hbm, 171, rfl⟩
abbrev main_v107 : Ref sig .tc := ⟨.hbm, 172, rfl⟩
abbrev main_v108 : Ref sig .tc := ⟨.hbm, 173, rfl⟩
abbrev main_v109 : Ref sig .tc := ⟨.hbm, 174, rfl⟩
abbrev main_v110 : Ref sig .tc := ⟨.hbm, 175, rfl⟩
abbrev main_v111 : Ref sig .tc := ⟨.hbm, 176, rfl⟩
abbrev main_v112 : Ref sig .tc := ⟨.hbm, 177, rfl⟩
abbrev main_v113 : Ref sig .tc := ⟨.hbm, 178, rfl⟩
abbrev main_v114 : Ref sig .tc := ⟨.hbm, 179, rfl⟩
abbrev main_v115 : Ref sig .tc := ⟨.hbm, 180, rfl⟩
abbrev main_v116 : Ref sig .tc := ⟨.hbm, 181, rfl⟩
abbrev main_v117 : Ref sig .tc := ⟨.hbm, 182, rfl⟩
abbrev main_v118 : Ref sig .tc := ⟨.hbm, 183, rfl⟩
abbrev main_v119 : Ref sig .tc := ⟨.hbm, 184, rfl⟩
abbrev main_v120 : Ref sig .tc := ⟨.hbm, 185, rfl⟩
abbrev main_cst_23 : Ref sig .tc := ⟨.hbm, 186, rfl⟩
abbrev main_v121 : Ref sig .tc := ⟨.hbm, 187, rfl⟩
abbrev main_v122 : Ref sig .tc := ⟨.hbm, 188, rfl⟩
abbrev main_v123 : Ref sig .tc := ⟨.hbm, 189, rfl⟩
abbrev main_v124 : Ref sig .tc := ⟨.hbm, 190, rfl⟩
abbrev main_v125 : Ref sig .tc := ⟨.hbm, 191, rfl⟩
abbrev main_v126 : Ref sig .tc := ⟨.hbm, 192, rfl⟩
abbrev main_v127 : Ref sig .tc := ⟨.hbm, 193, rfl⟩
abbrev main_v128 : Ref sig .tc := ⟨.hbm, 194, rfl⟩
abbrev main_v129 : Ref sig .tc := ⟨.hbm, 195, rfl⟩
abbrev main_v130 : Ref sig .tc := ⟨.hbm, 196, rfl⟩
abbrev main_v131 : Ref sig .tc := ⟨.hbm, 197, rfl⟩
abbrev main_v132 : Ref sig .tc := ⟨.hbm, 198, rfl⟩
abbrev main_v133 : Ref sig .tc := ⟨.hbm, 199, rfl⟩
abbrev main_v134 : Ref sig .tc := ⟨.hbm, 200, rfl⟩
abbrev main_v135 : Ref sig .tc := ⟨.hbm, 201, rfl⟩
abbrev main_v136 : Ref sig .tc := ⟨.hbm, 202, rfl⟩
abbrev main_v137 : Ref sig .tc := ⟨.hbm, 203, rfl⟩
abbrev main_v138 : Ref sig .tc := ⟨.hbm, 204, rfl⟩
abbrev main_v139 : Ref sig .tc := ⟨.hbm, 205, rfl⟩
abbrev main_v140 : Ref sig .tc := ⟨.hbm, 206, rfl⟩
abbrev main_v141 : Ref sig .tc := ⟨.hbm, 207, rfl⟩
abbrev main_v142 : Ref sig .tc := ⟨.hbm, 208, rfl⟩
abbrev main_v143 : Ref sig .tc := ⟨.hbm, 209, rfl⟩
abbrev main_v144 : Ref sig .tc := ⟨.hbm, 210, rfl⟩
abbrev main_v145 : Ref sig .tc := ⟨.hbm, 211, rfl⟩
abbrev main_v146 : Ref sig .tc := ⟨.hbm, 212, rfl⟩
abbrev main_cst_24 : Ref sig .tc := ⟨.hbm, 213, rfl⟩
abbrev main_v147 : Ref sig .tc := ⟨.hbm, 214, rfl⟩
abbrev main_cst_25 : Ref sig .tc := ⟨.hbm, 215, rfl⟩
abbrev main_v148 : Ref sig .tc := ⟨.hbm, 216, rfl⟩
abbrev main_v149 : Ref sig .tc := ⟨.hbm, 217, rfl⟩
abbrev main_cst_26 : Ref sig .tc := ⟨.hbm, 218, rfl⟩
abbrev main_v150 : Ref sig .tc := ⟨.hbm, 219, rfl⟩
abbrev main_v151 : Ref sig .tc := ⟨.hbm, 220, rfl⟩
abbrev main_v152 : Ref sig .tc := ⟨.hbm, 221, rfl⟩
abbrev main_v153 : Ref sig .tc := ⟨.hbm, 222, rfl⟩
abbrev main_v154 : Ref sig .tc := ⟨.hbm, 223, rfl⟩
abbrev main_cst_27 : Ref sig .tc := ⟨.hbm, 224, rfl⟩
abbrev main_v155 : Ref sig .tc := ⟨.hbm, 225, rfl⟩
abbrev main_v156 : Ref sig .tc := ⟨.hbm, 226, rfl⟩
abbrev main_v157 : Ref sig .tc := ⟨.hbm, 227, rfl⟩
abbrev main_cst_28 : Ref sig .tc := ⟨.hbm, 228, rfl⟩
abbrev main_v158 : Ref sig .tc := ⟨.hbm, 229, rfl⟩
abbrev main_v159 : Ref sig .tc := ⟨.hbm, 230, rfl⟩
abbrev main_cst_29 : Ref sig .tc := ⟨.hbm, 231, rfl⟩
abbrev main_v160 : Ref sig .tc := ⟨.hbm, 232, rfl⟩
abbrev main_v161 : Ref sig .tc := ⟨.hbm, 233, rfl⟩
abbrev main_cst_30 : Ref sig .tc := ⟨.hbm, 234, rfl⟩
abbrev main_v162 : Ref sig .tc := ⟨.hbm, 235, rfl⟩
abbrev main_v163 : Ref sig .tc := ⟨.hbm, 236, rfl⟩
abbrev main_cst_31 : Ref sig .tc := ⟨.hbm, 237, rfl⟩
abbrev main_call6_v0 : Ref sig .tc := ⟨.hbm, 238, rfl⟩
abbrev main_call6_v1 : Ref sig .tc := ⟨.hbm, 239, rfl⟩
abbrev main_call6_v2 : Ref sig .tc := ⟨.hbm, 240, rfl⟩
abbrev main_call6_cst : Ref sig .tc := ⟨.hbm, 241, rfl⟩
abbrev main_call6_v3 : Ref sig .tc := ⟨.hbm, 242, rfl⟩
abbrev main_call6_v4 : Ref sig .tc := ⟨.hbm, 243, rfl⟩
abbrev main_call6_cst_0 : Ref sig .tc := ⟨.hbm, 244, rfl⟩
abbrev main_call6_v5 : Ref sig .tc := ⟨.hbm, 245, rfl⟩
abbrev main_call6_v6 : Ref sig .tc := ⟨.hbm, 246, rfl⟩
abbrev main_call6_cst_1 : Ref sig .tc := ⟨.hbm, 247, rfl⟩
abbrev main_call6_v7 : Ref sig .tc := ⟨.hbm, 248, rfl⟩
abbrev main_call6_v8 : Ref sig .tc := ⟨.hbm, 249, rfl⟩
abbrev main_call6_v9 : Ref sig .tc := ⟨.hbm, 250, rfl⟩
abbrev main_call6_v10 : Ref sig .tc := ⟨.hbm, 251, rfl⟩
abbrev main_call6_v11 : Ref sig .tc := ⟨.hbm, 252, rfl⟩
abbrev main_call6_v12 : Ref sig .tc := ⟨.hbm, 253, rfl⟩
abbrev main_v164 : Ref sig .tc := ⟨.hbm, 254, rfl⟩
abbrev main_cst_32 : Ref sig .tc := ⟨.hbm, 255, rfl⟩
abbrev main_v165 : Ref sig .tc := ⟨.hbm, 256, rfl⟩
abbrev main_v166 : Ref sig .tc := ⟨.hbm, 257, rfl⟩
abbrev main_cst_33 : Ref sig .tc := ⟨.hbm, 258, rfl⟩
abbrev main_cst_34 : Ref sig .tc := ⟨.hbm, 259, rfl⟩
abbrev main_call7_v0 : Ref sig .tc := ⟨.hbm, 260, rfl⟩
abbrev main_call7_v1 : Ref sig .tc := ⟨.hbm, 261, rfl⟩
abbrev main_v167 : Ref sig .tc := ⟨.hbm, 262, rfl⟩
abbrev main_v168 : Ref sig .tc := ⟨.hbm, 263, rfl⟩
abbrev main_v169 : Ref sig .tc := ⟨.hbm, 264, rfl⟩
abbrev main_v170 : Ref sig .tc := ⟨.hbm, 265, rfl⟩
abbrev main_v171 : Ref sig .tc := ⟨.hbm, 266, rfl⟩
abbrev main_v172 : Ref sig .tc := ⟨.hbm, 267, rfl⟩
abbrev main_v173 : Ref sig .tc := ⟨.hbm, 268, rfl⟩
abbrev main_v174 : Ref sig .tc := ⟨.hbm, 269, rfl⟩
abbrev main_v175 : Ref sig .tc := ⟨.hbm, 270, rfl⟩
abbrev main_v176 : Ref sig .tc := ⟨.hbm, 271, rfl⟩
abbrev main_v177 : Ref sig .tc := ⟨.hbm, 272, rfl⟩
abbrev main_v178 : Ref sig .tc := ⟨.hbm, 273, rfl⟩
abbrev main_v179 : Ref sig .tc := ⟨.hbm, 274, rfl⟩
abbrev main_v180 : Ref sig .tc := ⟨.hbm, 275, rfl⟩
abbrev main_v181 : Ref sig .tc := ⟨.hbm, 276, rfl⟩
abbrev main_v182 : Ref sig .tc := ⟨.hbm, 277, rfl⟩
abbrev main_v183 : Ref sig .tc := ⟨.hbm, 278, rfl⟩
abbrev main_v184 : Ref sig .tc := ⟨.hbm, 279, rfl⟩
abbrev main_v185 : Ref sig .tc := ⟨.hbm, 280, rfl⟩
abbrev main_v186 : Ref sig .tc := ⟨.hbm, 281, rfl⟩
abbrev main_v187 : Ref sig .tc := ⟨.hbm, 282, rfl⟩
abbrev main_v188 : Ref sig .tc := ⟨.hbm, 283, rfl⟩
abbrev main_v189 : Ref sig .tc := ⟨.hbm, 284, rfl⟩
abbrev main_v190 : Ref sig .tc := ⟨.hbm, 285, rfl⟩
abbrev main_v191 : Ref sig .tc := ⟨.hbm, 286, rfl⟩
abbrev main_v192 : Ref sig .tc := ⟨.hbm, 287, rfl⟩
abbrev main_v193 : Ref sig .tc := ⟨.hbm, 288, rfl⟩
abbrev main_v194 : Ref sig .tc := ⟨.hbm, 289, rfl⟩
abbrev main_v195 : Ref sig .tc := ⟨.hbm, 290, rfl⟩
abbrev main_v196 : Ref sig .tc := ⟨.hbm, 291, rfl⟩
abbrev main_cst_35 : Ref sig .tc := ⟨.hbm, 292, rfl⟩
abbrev main_v197 : Ref sig .tc := ⟨.hbm, 293, rfl⟩
abbrev main_v198 : Ref sig .tc := ⟨.hbm, 294, rfl⟩
abbrev main_v199 : Ref sig .tc := ⟨.hbm, 295, rfl⟩
abbrev main_v200 : Ref sig .tc := ⟨.hbm, 296, rfl⟩
abbrev main_v201 : Ref sig .tc := ⟨.hbm, 297, rfl⟩
abbrev main_v202 : Ref sig .tc := ⟨.hbm, 298, rfl⟩
abbrev main_v203 : Ref sig .tc := ⟨.hbm, 299, rfl⟩
abbrev main_cst_36 : Ref sig .tc := ⟨.hbm, 300, rfl⟩
abbrev main_v204 : Ref sig .tc := ⟨.hbm, 301, rfl⟩
abbrev main_v205 : Ref sig .tc := ⟨.hbm, 302, rfl⟩
abbrev main_cst_37 : Ref sig .tc := ⟨.hbm, 303, rfl⟩
abbrev main_v206 : Ref sig .tc := ⟨.hbm, 304, rfl⟩
abbrev main_v207 : Ref sig .tc := ⟨.hbm, 305, rfl⟩
abbrev main_v208 : Ref sig .tc := ⟨.hbm, 306, rfl⟩
abbrev main_v209 : Ref sig .tc := ⟨.hbm, 307, rfl⟩
abbrev main_v210 : Ref sig .tc := ⟨.hbm, 308, rfl⟩
abbrev main_cst_38 : Ref sig .tc := ⟨.hbm, 309, rfl⟩
abbrev main_v211 : Ref sig .tc := ⟨.hbm, 310, rfl⟩
abbrev main_v212 : Ref sig .tc := ⟨.hbm, 311, rfl⟩
abbrev main_v213 : Ref sig .tc := ⟨.hbm, 312, rfl⟩
abbrev main_cst_39 : Ref sig .tc := ⟨.hbm, 313, rfl⟩
abbrev main_v214 : Ref sig .tc := ⟨.hbm, 314, rfl⟩
abbrev main_v215 : Ref sig .tc := ⟨.hbm, 315, rfl⟩
abbrev main_cst_40 : Ref sig .tc := ⟨.hbm, 316, rfl⟩
abbrev main_v216 : Ref sig .tc := ⟨.hbm, 317, rfl⟩
abbrev main_v217 : Ref sig .tc := ⟨.hbm, 318, rfl⟩
abbrev main_cst_41 : Ref sig .tc := ⟨.hbm, 319, rfl⟩
abbrev main_v218 : Ref sig .tc := ⟨.hbm, 320, rfl⟩
abbrev main_v219 : Ref sig .tc := ⟨.hbm, 321, rfl⟩
abbrev main_cst_42 : Ref sig .tc := ⟨.hbm, 322, rfl⟩
abbrev main_call9_v0 : Ref sig .tc := ⟨.hbm, 323, rfl⟩
abbrev main_call9_v1 : Ref sig .tc := ⟨.hbm, 324, rfl⟩
abbrev main_call9_v2 : Ref sig .tc := ⟨.hbm, 325, rfl⟩
abbrev main_call9_cst : Ref sig .tc := ⟨.hbm, 326, rfl⟩
abbrev main_call9_v3 : Ref sig .tc := ⟨.hbm, 327, rfl⟩
abbrev main_call9_v4 : Ref sig .tc := ⟨.hbm, 328, rfl⟩
abbrev main_call9_cst_0 : Ref sig .tc := ⟨.hbm, 329, rfl⟩
abbrev main_call9_v5 : Ref sig .tc := ⟨.hbm, 330, rfl⟩
abbrev main_call9_v6 : Ref sig .tc := ⟨.hbm, 331, rfl⟩
abbrev main_call9_cst_1 : Ref sig .tc := ⟨.hbm, 332, rfl⟩
abbrev main_call9_v7 : Ref sig .tc := ⟨.hbm, 333, rfl⟩
abbrev main_call9_v8 : Ref sig .tc := ⟨.hbm, 334, rfl⟩
abbrev main_call9_v9 : Ref sig .tc := ⟨.hbm, 335, rfl⟩
abbrev main_call9_v10 : Ref sig .tc := ⟨.hbm, 336, rfl⟩
abbrev main_call9_v11 : Ref sig .tc := ⟨.hbm, 337, rfl⟩
abbrev main_call9_v12 : Ref sig .tc := ⟨.hbm, 338, rfl⟩
abbrev main_v220 : Ref sig .tc := ⟨.hbm, 339, rfl⟩
abbrev main_cst_43 : Ref sig .tc := ⟨.hbm, 340, rfl⟩
abbrev main_v221 : Ref sig .tc := ⟨.hbm, 341, rfl⟩
abbrev main_v222 : Ref sig .tc := ⟨.hbm, 342, rfl⟩
abbrev main_cst_44 : Ref sig .tc := ⟨.hbm, 343, rfl⟩
abbrev main_cst_45 : Ref sig .tc := ⟨.hbm, 344, rfl⟩
abbrev main_call10_v0 : Ref sig .tc := ⟨.hbm, 345, rfl⟩
abbrev main_call10_v1 : Ref sig .tc := ⟨.hbm, 346, rfl⟩
abbrev main_v223 : Ref sig .tc := ⟨.hbm, 347, rfl⟩
abbrev main_v224 : Ref sig .tc := ⟨.hbm, 348, rfl⟩
abbrev main_v225 : Ref sig .tc := ⟨.hbm, 349, rfl⟩
abbrev main_v226 : Ref sig .tc := ⟨.hbm, 350, rfl⟩
abbrev main_v227 : Ref sig .tc := ⟨.hbm, 351, rfl⟩
abbrev main_v228 : Ref sig .tc := ⟨.hbm, 352, rfl⟩
abbrev main_v229 : Ref sig .tc := ⟨.hbm, 353, rfl⟩
abbrev main_v230 : Ref sig .tc := ⟨.hbm, 354, rfl⟩
abbrev main_v231 : Ref sig .tc := ⟨.hbm, 355, rfl⟩
abbrev main_v232 : Ref sig .tc := ⟨.hbm, 356, rfl⟩
abbrev main_v233 : Ref sig .tc := ⟨.hbm, 357, rfl⟩
abbrev main_v234 : Ref sig .tc := ⟨.hbm, 358, rfl⟩
abbrev main_v235 : Ref sig .tc := ⟨.hbm, 359, rfl⟩
abbrev main_v236 : Ref sig .tc := ⟨.hbm, 360, rfl⟩
abbrev main_v237 : Ref sig .tc := ⟨.hbm, 361, rfl⟩
abbrev main_v238 : Ref sig .tc := ⟨.hbm, 362, rfl⟩
abbrev main_v239 : Ref sig .tc := ⟨.hbm, 363, rfl⟩
abbrev main_v240 : Ref sig .tc := ⟨.hbm, 364, rfl⟩
abbrev main_v241 : Ref sig .tc := ⟨.hbm, 365, rfl⟩
abbrev main_v242 : Ref sig .tc := ⟨.hbm, 366, rfl⟩
abbrev main_v243 : Ref sig .tc := ⟨.hbm, 367, rfl⟩
abbrev main_v244 : Ref sig .tc := ⟨.hbm, 368, rfl⟩
abbrev main_v245 : Ref sig .tc := ⟨.hbm, 369, rfl⟩
abbrev main_v246 : Ref sig .tc := ⟨.hbm, 370, rfl⟩
abbrev main_v247 : Ref sig .tc := ⟨.hbm, 371, rfl⟩
abbrev main_v248 : Ref sig .tc := ⟨.hbm, 372, rfl⟩
abbrev main_v249 : Ref sig .tc := ⟨.hbm, 373, rfl⟩
abbrev main_v250 : Ref sig .tc := ⟨.hbm, 374, rfl⟩
abbrev main_v251 : Ref sig .tc := ⟨.hbm, 375, rfl⟩
abbrev main_v252 : Ref sig .tc := ⟨.hbm, 376, rfl⟩
abbrev main_cst_46 : Ref sig .tc := ⟨.hbm, 377, rfl⟩
abbrev main_v253 : Ref sig .tc := ⟨.hbm, 378, rfl⟩
abbrev main_v254 : Ref sig .tc := ⟨.hbm, 379, rfl⟩
abbrev main_v255 : Ref sig .tc := ⟨.hbm, 380, rfl⟩
abbrev main_v256 : Ref sig .tc := ⟨.hbm, 381, rfl⟩
abbrev main_v257 : Ref sig .tc := ⟨.hbm, 382, rfl⟩
abbrev main_v258 : Ref sig .tc := ⟨.hbm, 383, rfl⟩
abbrev main_v259 : Ref sig .tc := ⟨.hbm, 384, rfl⟩
abbrev main_v260 : Ref sig .tc := ⟨.hbm, 385, rfl⟩
abbrev main_v261 : Ref sig .tc := ⟨.hbm, 386, rfl⟩
abbrev main_v262 : Ref sig .tc := ⟨.hbm, 387, rfl⟩
abbrev main_v263 : Ref sig .tc := ⟨.hbm, 388, rfl⟩
abbrev main_v264 : Ref sig .tc := ⟨.hbm, 389, rfl⟩
abbrev main_v265 : Ref sig .tc := ⟨.hbm, 390, rfl⟩
abbrev main_v266 : Ref sig .tc := ⟨.hbm, 391, rfl⟩
abbrev main_v267 : Ref sig .tc := ⟨.hbm, 392, rfl⟩
abbrev main_v268 : Ref sig .tc := ⟨.hbm, 393, rfl⟩
abbrev main_v269 : Ref sig .tc := ⟨.hbm, 394, rfl⟩
abbrev main_v270 : Ref sig .tc := ⟨.hbm, 395, rfl⟩
abbrev main_v271 : Ref sig .tc := ⟨.hbm, 396, rfl⟩
abbrev main_v272 : Ref sig .tc := ⟨.hbm, 397, rfl⟩
abbrev main_call12_v0 : Ref sig .tc := ⟨.hbm, 398, rfl⟩
abbrev main_call12_v1 : Ref sig .tc := ⟨.hbm, 399, rfl⟩
abbrev main_call12_v2 : Ref sig .tc := ⟨.hbm, 400, rfl⟩
abbrev main_call12_v3 : Ref sig .tc := ⟨.hbm, 401, rfl⟩
abbrev main_call12_v4 : Ref sig .tc := ⟨.hbm, 402, rfl⟩
abbrev main_v273 : Ref sig .tc := ⟨.hbm, 403, rfl⟩
abbrev main_cst_47 : Ref sig .tc := ⟨.hbm, 404, rfl⟩
abbrev main_v274 : Ref sig .tc := ⟨.hbm, 405, rfl⟩
abbrev main_cst_48 : Ref sig .tc := ⟨.hbm, 406, rfl⟩
abbrev main_v275 : Ref sig .tc := ⟨.hbm, 407, rfl⟩
abbrev main_v276 : Ref sig .tc := ⟨.hbm, 408, rfl⟩
abbrev main_cst_49 : Ref sig .tc := ⟨.hbm, 409, rfl⟩
abbrev main_v277 : Ref sig .tc := ⟨.hbm, 410, rfl⟩
abbrev main_v278 : Ref sig .tc := ⟨.hbm, 411, rfl⟩
abbrev main_cst_50 : Ref sig .tc := ⟨.hbm, 412, rfl⟩
abbrev main_v279 : Ref sig .tc := ⟨.hbm, 413, rfl⟩
abbrev main_v280 : Ref sig .tc := ⟨.hbm, 414, rfl⟩
abbrev main_v281 : Ref sig .tc := ⟨.hbm, 415, rfl⟩
abbrev main_v282 : Ref sig .tc := ⟨.hbm, 416, rfl⟩
abbrev main_cst_51 : Ref sig .tc := ⟨.hbm, 417, rfl⟩
abbrev main_v283 : Ref sig .tc := ⟨.hbm, 418, rfl⟩
abbrev main_v284 : Ref sig .tc := ⟨.hbm, 419, rfl⟩
abbrev main_v285 : Ref sig .tc := ⟨.hbm, 420, rfl⟩
abbrev main_v286 : Ref sig .tc := ⟨.hbm, 421, rfl⟩
abbrev main_cst_52 : Ref sig .tc := ⟨.hbm, 422, rfl⟩
abbrev main_v287 : Ref sig .tc := ⟨.hbm, 423, rfl⟩
abbrev main_v288 : Ref sig .tc := ⟨.hbm, 424, rfl⟩
abbrev main_v289 : Ref sig .tc := ⟨.hbm, 425, rfl⟩
abbrev main_cst_53 : Ref sig .tc := ⟨.hbm, 426, rfl⟩
abbrev main_v290 : Ref sig .tc := ⟨.hbm, 427, rfl⟩
abbrev main_v291 : Ref sig .tc := ⟨.hbm, 428, rfl⟩
abbrev main_v292 : Ref sig .tc := ⟨.hbm, 429, rfl⟩
abbrev main_v293 : Ref sig .tc := ⟨.hbm, 430, rfl⟩
abbrev main_v294 : Ref sig .tc := ⟨.hbm, 431, rfl⟩

abbrev nD : Nat := 1
abbrev τ : Topo := Topo.v7x

variable {F : FTy → Type} [FloatOps F]
-- ==== Proof.Scalar.lean ====
/-
  Facts about single numbers that the certificate rests on: what the printed constants denote, that a
  bounded and rounded activation is one of the five levels -2 … 2, what the reference's per-level
  constants (scale, half width, offset, shift) come to, and the words that the digit sums convert to.
-/
module

public import Idealize.ShloMosaic.PureOps.Ideal.Laws
public import Mathlib.Analysis.SpecialFunctions.Artanh
public import Mathlib.Analysis.SpecialFunctions.Trigonometric.DerivHyp

@[expose] public section

noncomputable section

namespace Fsq

open Idealize.ShloMosaic

/-! ## Constants -/

/-- A positive normal binary32 word denotes its significand times its power of two. -/
theorem bits_normal (b : BitVec 32) (ex fr : ℕ) (hs : (b.extractLsb' 31 1 == 1#1) = false)
    (hex : (b.extractLsb' 23 8).toNat = ex) (hfr : (b.extractLsb' 0 23).toNat = fr) (h1 : ex ≠ 255) (h0 : ex ≠ 0) :
    Ideal.ofBits .f32 b = (((2 ^ 23 + fr : ℕ) * (2 : ℝ) ^ ((ex : ℤ) - 150) : ℝ) : EReal) := by
  show Ideal.ieee 8 23 b = _
  unfold Ideal.ieee
  simp only [hs, hex, hfr]
  rw [if_neg (by norm_num; exact h1), if_neg h0]
  congr 1
  have : ((ex : ℤ) - (2 ^ (8 - 1) - 1) - (23 : ℕ)) = (ex : ℤ) - 150 := by norm_num; ring
  rw [this]
  simp

/-- The word `0x3F800000` denotes one. -/
theorem bits_one : Ideal.ofBits .f32 0x3F800000#32 = ((1 : ℝ) : EReal) := by
  rw [bits_normal _ 127 0 (by decide) (by decide) (by decide) (by decide) (by decide)]; congr 1; norm_num
/-- The word `0x40000000` denotes two. -/
theorem bits_two : Ideal.ofBits .f32 0x40000000#32 = ((2 : ℝ) : EReal) := by
  rw [bits_normal _ 128 0 (by decide) (by decide) (by decide) (by decide) (by decide)]; congr 1; norm_num
/-- The word `0x40800000` denotes four. -/
theorem bits_four : Ideal.ofBits .f32 0x40800000#32 = ((4 : ℝ) : EReal) := by
  rw [bits_normal _ 129 0 (by decide) (by decide) (by decide) (by decide) (by decide)]; congr 1; norm_num
/-- The word `0x40A00000` denotes five. -/
theorem bits_five : Ideal.ofBits .f32 0x40A00000#32 = ((5 : ℝ) : EReal) := by
  rw [bits_normal _ 129 0x200000 (by decide) (by decide) (by decide) (by decide) (by decide)]; congr 1; norm_num
/-- The word `0x41C80000` denotes twenty-five. -/
theorem bits_25 : Ideal.ofBits .f32 0x41C80000#32 = ((25 : ℝ) : EReal) := by
  rw [bits_normal _ 131 0x480000 (by decide) (by decide) (by decide) (by decide) (by decide)]; congr 1; norm_num
/-- The word `0x42FA0000` denotes one hundred and twenty-five. -/
theorem bits_125 : Ideal.ofBits .f32 0x42FA0000#32 = ((125 : ℝ) : EReal) := by
  rw [bits_normal _ 133 0x7A0000 (by decide) (by decide) (by decide) (by decide) (by decide)]; congr 1; norm_num
/-- The word `0x3F000000` denotes a half. -/
theorem bits_half : Ideal.ofBits .f32 0x3F000000#32 = ((1 / 2 : ℝ) : EReal) := by
  rw [bits_normal _ 126 0 (by decide) (by decide) (by decide) (by decide) (by decide)]; congr 1; norm_num
/-- The word `0x3E800000` denotes a quarter. -/
theorem bits_quarter : Ideal.ofBits .f32 0x3E800000#32 = ((1 / 4 : ℝ) : EReal) := by
  rw [bits_normal _ 125 0 (by decide) (by decide) (by decide) (by decide) (by decide)]; congr 1; norm_num
/-- The word `0xBF800000` denotes minus one. -/
theorem bits_neg_one : Ideal.ofBits .f32 0xBF800000#32 = ((-1 : ℝ) : EReal) := by
  show Ideal.ieee 8 23 (0xBF800000#32) = _
  unfold Ideal.ieee
  simp only []
  rw [if_neg (by decide), if_neg (by decide)]
  congr 1
  rw [show ((BitVec.extractLsb' (8 + 23) 1 0xBF800000#32 == 1#1) = true) from by decide,
    show (BitVec.extractLsb' 23 8 0xBF800000#32).toNat = 127 from by decide,
    show (BitVec.extractLsb' 0 23 0xBF800000#32).toNat = 0 from by decide]
  norm_num
/-- The word `0x80000000`, a negative zero, denotes zero. -/
theorem bits_neg_zero : Ideal.ofBits .f32 0x80000000#32 = ((0 : ℝ) : EReal) := by
  simp [Ideal.ofBits, Ideal.ieee]

/-- The kernel's bound on a level: the binary32 number nearest 2.002. -/
def half : ℝ := (2 ^ 23 + 0x20C5) * (2 : ℝ) ^ (-22 : ℤ)

/-- The word `0x400020C5` denotes `half`. -/
theorem bits_half_l : Ideal.ofBits .f32 0x400020C5#32 = (half : EReal) := by
  rw [bits_normal _ 128 0x20C5 (by decide) (by decide) (by decide) (by decide) (by decide)]
  congr 1; unfold half; norm_num
/-- The word `0x3F8020C5`, the binary32 number nearest 1.001, denotes half of `half`. -/
theorem bits_1001 : Ideal.ofBits .f32 0x3F8020C5#32 = ((half / 2 : ℝ) : EReal) := by
  rw [bits_normal _ 127 0x20C5 (by decide) (by decide) (by decide) (by decide) (by decide)]
  congr 1; unfold half; norm_num

/-- The bound is positive. -/
theorem half_pos : 0 < half := by unfold half; positivity
/-- The bound is below two and a half. -/
theorem half_lt : half < 5 / 2 := by unfold half; norm_num

/-! ## The level of an activation -/

/-- A hyperbolic tangent is a real number between -1 and 1, at the infinities too. -/
theorem tanh_real (x : EReal) : ∃ t : ℝ, -1 ≤ t ∧ t ≤ 1 ∧ Ideal.tanh x = (t : EReal) := by
  induction x using EReal.rec with
  | bot => exact ⟨-1, le_refl _, by norm_num, by simp⟩
  | top => exact ⟨1, by norm_num, le_refl _, by simp⟩
  | coe r => exact ⟨Real.tanh r, (Real.neg_one_lt_tanh r).le, (Real.tanh_lt_one r).le, rfl⟩

/-- The bounded activation, as a real number. -/
def bnd (x : EReal) : ℝ := (Ideal.tanh x).toReal * half

/-- The bounded activation is a real number. -/
theorem bnd_eq (x : EReal) : Ideal.tanh x * (half : EReal) = (bnd x : EReal) := by
  obtain ⟨t, _, _, h⟩ := tanh_real x
  unfold bnd
  rw [h, EReal.toReal_coe, EReal.coe_mul]

/-- The bounded activation lies within two and a half. -/
theorem bnd_abs (x : EReal) : -(5 / 2) < bnd x ∧ bnd x < 5 / 2 := by
  obtain ⟨t, h1, h2, h⟩ := tanh_real x
  unfold bnd
  rw [h, EReal.toReal_coe]
  have := half_pos; have := half_lt
  constructor <;> nlinarith

/-- The level that an activation is rounded to: an integer. -/
def lvl (x : EReal) : ℤ := Ideal.roundHalfEven (bnd x)

/-- Rounding half to even keeps the open interval between -5/2 and 5/2 within -2 … 2. -/
theorem round_mem {r : ℝ} (h1 : -(5 / 2) < r) (h2 : r < 5 / 2) :
    -2 ≤ Ideal.roundHalfEven r ∧ Ideal.roundHalfEven r ≤ 2 := by
  have hf : -3 ≤ ⌊r⌋ := Int.le_floor.mpr (by push_cast; linarith)
  have hg : ⌊r⌋ < 3 := Int.floor_lt.mpr (by push_cast; linarith)
  have h3 : ⌊r⌋ = -3 → 1 / 2 < r - ⌊r⌋ := fun e => by rw [e]; push_cast; linarith
  have h4 : ⌊r⌋ = 2 → r - ⌊r⌋ < 1 / 2 := fun e => by rw [e]; push_cast; linarith
  unfold Ideal.roundHalfEven
  simp only []
  by_cases e3 : ⌊r⌋ = -3
  · have := h3 e3
    rw [if_neg (by linarith), if_pos this]; omega
  · by_cases e2 : ⌊r⌋ = 2
    · rw [if_pos (h4 e2)]; omega
    · split_ifs <;> omega

/-- A level is one of five. -/
theorem lvl_mem (x : EReal) : -2 ≤ lvl x ∧ lvl x ≤ 2 := round_mem (bnd_abs x).1 (bnd_abs x).2

/-- The kernel's rounded, bounded activation is the level. -/
theorem round_tanh (x : EReal) :
    Ideal.liftRound Ideal.roundHalfEven (Ideal.tanh x * (half : EReal)) = ((lvl x : ℝ) : EReal) := by
  rw [bnd_eq]; rfl

/-- The reference's straight-through rounding, `y + (round y - y)`, is the level. -/
theorem round_ste (x : EReal) :
    Ideal.tanh x * (half : EReal) + (Ideal.liftRound Ideal.roundHalfEven (Ideal.tanh x * (half : EReal))
      - Ideal.tanh x * (half : EReal)) = ((lvl x : ℝ) : EReal) := by
  rw [round_tanh, bnd_eq, ← EReal.coe_sub, ← EReal.coe_add]
  congr 1; ring

/-- The digit of an activation: its level counted from zero, one of 0 … 4. -/
def dig (x : EReal) : ℕ := (lvl x + 2).toNat

/-- A digit is below five. -/
theorem dig_lt (x : EReal) : dig x < 5 := by have := lvl_mem x; unfold dig; omega

/-- A digit is its level plus two. -/
theorem dig_cast (x : EReal) : (dig x : ℝ) = (lvl x : ℝ) + 2 := by
  have := lvl_mem x
  have h : ((dig x : ℕ) : ℤ) = lvl x + 2 := by unfold dig; omega
  exact_mod_cast h

/-! ## The reference's constants -/

/-- `4 ^ (-0) = 1`: the first quantizer's scale. -/
theorem scale_zero : Ideal.pow (((5 : ℝ) : EReal) - ((1 : ℝ) : EReal)) ((0 : ℝ) : EReal) = ((1 : ℝ) : EReal) := by
  rw [← EReal.coe_sub, Ideal.pow_coe_coe]; congr 1; exact Real.rpow_zero _

/-- `4 ^ (-1) = 1/4`: the second quantizer's scale. -/
theorem scale_one : Ideal.pow (((5 : ℝ) : EReal) - ((1 : ℝ) : EReal)) ((-1 : ℝ) : EReal) = ((1 / 4 : ℝ) : EReal) := by
  rw [← EReal.coe_sub, Ideal.pow_coe_coe]; congr 1
  show (5 - 1 : ℝ) ^ (-1 : ℝ) = _
  rw [Real.rpow_neg_one]; norm_num

/-- The half width `⌊5 / 2⌋` is two. -/
theorem width : Ideal.liftRound Int.floor (Ideal.div ((5 : ℝ) : EReal) ((2 : ℝ) : EReal)) = ((2 : ℝ) : EReal) := by
  rw [Ideal.div_coe (by norm_num), ← EReal.coe_mul, Ideal.liftRound_coe]
  congr 1
  have : ⌊(5 * (1 / 2) : ℝ)⌋ = 2 := by rw [Int.floor_eq_iff]; norm_num
  rw [this]; norm_num

/-- The reference's bound `(5 - 1) * 1.001 / 2` is the kernel's. -/
theorem bound_eq : Ideal.div ((((5 : ℝ) : EReal) - ((1 : ℝ) : EReal)) * ((half / 2 : ℝ) : EReal)) ((2 : ℝ) : EReal)
    = (half : EReal) := by
  rw [Ideal.div_coe (by norm_num), ← EReal.coe_sub, ← EReal.coe_mul, ← EReal.coe_mul]; congr 1; ring

/-- The remainder of 5 by 2 is one. -/
theorem rem_eq : Ideal.remf ((5 : ℝ) : EReal) ((2 : ℝ) : EReal) = ((1 : ℝ) : EReal) := by
  rw [Ideal.remf_coe, if_neg (by norm_num)]
  congr 1
  have : Ideal.truncInt (5 / 2 : ℝ) = 2 := by
    unfold Ideal.truncInt
    rw [if_pos (by norm_num), Int.floor_eq_iff]; norm_num
  rw [this]; norm_num

/-- The shift of the bound, `artanh (0 / half)`, is zero. -/
theorem shift_zero : Ideal.atanh (Ideal.div (0 : EReal) (half : EReal)) = 0 := by
  rw [Ideal.div_coe (ne_of_gt half_pos), zero_mul, ← EReal.coe_zero, Ideal.atanh_coe]
  norm_num

/-- Dividing by one changes nothing. -/
theorem div_one (x : EReal) : Ideal.div x ((1 : ℝ) : EReal) = x := by
  rw [Ideal.div_coe (by norm_num)]; norm_num

/-- Dividing by a quarter is multiplying by four. -/
theorem div_quarter (x : EReal) : Ideal.div x ((1 / 4 : ℝ) : EReal) = x * ((4 : ℝ) : EReal) := by
  rw [Ideal.div_coe (by norm_num)]; norm_num

/-- Dividing by two is multiplying by a half. -/
theorem div_two (x : EReal) : Ideal.div x ((2 : ℝ) : EReal) = x * ((1 / 2 : ℝ) : EReal) := by
  rw [Ideal.div_coe (by norm_num)]

/-! ## Words -/

/-- A natural number below `2 ^ 31` converts to the word that holds it. -/
theorem fptosi_nat (n : ℕ) (h : n < 2 ^ 31) : Ideal.fptosi 32 ((n : ℝ) : EReal) = BitVec.ofNat 32 n := by
  unfold Ideal.fptosi
  rw [Ideal.toIntClamped_coe, if_pos (Nat.cast_nonneg n), Int.floor_natCast,
    min_eq_right (by norm_num; omega), max_eq_right (by norm_num), BitVec.ofInt_natCast]

/-- Two small naturals' words are equal exactly when the naturals are. -/
theorem word_eq (a b : ℕ) (ha : a < 2 ^ 32) (hb : b < 2 ^ 32) : BitVec.ofNat 32 a = BitVec.ofNat 32 b ↔ a = b := by
  constructor
  · intro h
    have := congrArg BitVec.toNat h
    rwa [BitVec.toNat_ofNat, BitVec.toNat_ofNat, Nat.mod_eq_of_lt ha, Nat.mod_eq_of_lt hb] at this
  · rintro rfl; rfl

/-- The kernel's digit pair: `d + 5 e` over the levels' digits. -/
theorem pair_word (x y : EReal) :
    Ideal.fptosi 32 ((((lvl x : ℝ) : EReal) + ((2 : ℝ) : EReal)) + ((5 : ℝ) : EReal) * (((lvl y : ℝ) : EReal) + ((2 : ℝ) : EReal)))
      = BitVec.ofNat 32 (dig x + 5 * dig y) := by
  rw [← EReal.coe_add, ← EReal.coe_add, ← EReal.coe_mul, ← EReal.coe_add, ← dig_cast, ← dig_cast]
  have hx := dig_lt x; have hy := dig_lt y
  rw [← fptosi_nat _ (by omega)]
  push_cast; rfl

/-- The reference's digit, `(level / 2) * 2 + 2`. -/
theorem zhat_eq (x : EReal) : ((lvl x : ℝ) : EReal) * ((1 / 2 : ℝ) : EReal) * ((2 : ℝ) : EReal) + ((2 : ℝ) : EReal)
    = ((dig x : ℝ) : EReal) := by
  rw [dig_cast, ← EReal.coe_mul, ← EReal.coe_mul, ← EReal.coe_add]; congr 1; ring

/-- The reference's index: the four digits weighted by 1, 5, 25 and 125. -/
theorem index_word (x y u v : EReal) :
    Ideal.fptosi 32 (((dig x : ℝ) : EReal) * ((1 : ℝ) : EReal) + ((dig y : ℝ) : EReal) * ((5 : ℝ) : EReal)
        + ((dig u : ℝ) : EReal) * ((25 : ℝ) : EReal) + ((dig v : ℝ) : EReal) * ((125 : ℝ) : EReal))
      = BitVec.ofNat 32 (dig x + 5 * dig y + 25 * (dig u + 5 * dig v)) := by
  have hx := dig_lt x; have hy := dig_lt y; have hu := dig_lt u; have hv := dig_lt v
  simp only [← EReal.coe_add, ← EReal.coe_mul]
  rw [← fptosi_nat _ (by omega)]
  congr 2; push_cast; ring

end Fsq

end
-- ==== Proof.Spec.lean ====
/-
  The functions of the five argument arrays that both programs compute: the activation of a token, its
  two levels, the quantized activation, the projected feature, the token's codebook index, and the
  perplexity of the indices of a group's quantizer. Plain sums over the extended reals; neither program
  is mentioned.
-/
module

public import proofs.«01_k».proof.Proof.Scalar
public import Idealize.ShloMosaic.Lib.Pointwise

@[expose] public section

noncomputable section

namespace Fsq

open Idealize.ShloMosaic

/-- An array of extended reals of three axes. -/
abbrev Arr3 (a b c : ℕ) : Type := (⟨3, ![a, b, c]⟩ : Shape).Idx → EReal
/-- An array of extended reals of two axes. -/
abbrev Arr2 (a b : ℕ) : Type := (⟨2, ![a, b]⟩ : Shape).Idx → EReal

/-- Channel `k` of group `g`, among the 1024 channels of both groups. -/
abbrev chan (g : Fin 2) (k : Fin 512) : Fin 1024 := ⟨g.val * 512 + k.val, by omega⟩

/-- The residual that the second quantizer rounds, scaled by four. -/
def resid (z : EReal) : EReal := (z - ((lvl z : ℝ) : EReal) * ((1 / 2 : ℝ) : EReal)) * ((4 : ℝ) : EReal)

/-- What quantizer `r` rounds: the activation, or its scaled residual. -/
def stage (r : Fin 2) (z : EReal) : EReal := if r.val < 1 then z else resid z

/-- The quantized activation: half the first level plus an eighth of the second. -/
def quant (z : EReal) : EReal := ((lvl z : ℝ) : EReal) * ((1 / 2 : ℝ) : EReal)
  + ((lvl (resid z) : ℝ) : EReal) * ((1 / 2 : ℝ) : EReal) * ((1 / 4 : ℝ) : EReal)

/-- The first two digits of a token's index, as one number below 25. -/
def low (r : Fin 2) (z : Fin 4 → EReal) : ℕ := dig (stage r (z 0)) + 5 * dig (stage r (z 1))
/-- The last two digits of a token's index, as one number below 25. -/
def high (r : Fin 2) (z : Fin 4 → EReal) : ℕ := dig (stage r (z 2)) + 5 * dig (stage r (z 3))

/-- The first half of an index is below 25. -/
theorem low_lt (r : Fin 2) (z : Fin 4 → EReal) : low r z < 25 := by
  have := dig_lt (stage r (z 0)); have := dig_lt (stage r (z 1)); unfold low; omega
/-- The second half of an index is below 25. -/
theorem high_lt (r : Fin 2) (z : Fin 4 → EReal) : high r z < 25 := by
  have := dig_lt (stage r (z 2)); have := dig_lt (stage r (z 3)); unfold high; omega

/-- A token's codebook index, below 625. -/
def index (r : Fin 2) (z : Fin 4 → EReal) : ℕ := low r z + 25 * high r z

/-- An index is below 625. -/
theorem index_lt (r : Fin 2) (z : Fin 4 → EReal) : index r z < 625 := by
  have := low_lt r z; have := high_lt r z; unfold index; omega

/-- The index is bin `25 j + i` exactly when its two halves are `j` and `i`. -/
theorem index_eq_iff (r : Fin 2) (z : Fin 4 → EReal) (j i : ℕ) (hi : i < 25) :
    index r z = 25 * j + i ↔ high r z = j ∧ low r z = i := by
  have := low_lt r z
  unfold index; omega

section
variable (X : Arr3 4 1024 4096) (Win : Arr3 2 4 512) (Bin : Arr2 2 4) (Wout : Arr3 2 512 4) (Bout : Arr2 2 512)

/-- The activation of token `t` of batch `b` in group `g`, digit `d`: the input projection and its bias. -/
def act (b : Fin 4) (g : Fin 2) (t : Fin 4096) (d : Fin 4) : EReal :=
  (∑ k : Fin 512, Win (ix3 g d k) * X (ix3 b (chan g k) t)) + Bin (ix2 g d)

/-- The output projection of the quantized activations, and its bias. -/
def feat (b : Fin 4) (g : Fin 2) (k : Fin 512) (t : Fin 4096) : EReal :=
  (∑ d : Fin 4, Wout (ix3 g k d) * quant (act X Win Bin b g t d)) + Bout (ix2 g k)

/-- How many tokens of group `g` have index `n` at quantizer `r`, over all batches. -/
def hist (g r : Fin 2) (n : ℕ) : EReal :=
  ∑ b : Fin 4, ∑ t : Fin 4096, if index r (act X Win Bin b g t) = n then 1 else 0

end

/-- The perplexity of the counts of 625 bins: the counts' mean over 16384 tokens, normalised, and the
    exponential of its entropy, with the programs' small constant in the quotient and the logarithm. -/
def perp (h : Fin 625 → EReal) : EReal :=
  let em := fun n => Ideal.div (h n) (Ideal.ofBits .f32 0x46800000#32)
  let p := fun n => Ideal.div (em n) ((∑ n, em n) + Ideal.ofBits .f32 0x3727C5AC#32)
  Ideal.exp (-(∑ n, p n * Ideal.log (p n + Ideal.ofBits .f32 0x3727C5AC#32)))

end Fsq

end
-- ==== Proof.KernelBlock.lean ====
/-
  What one block of the kernel computes: every stored value, read at an index, as a function of the
  loaded blocks.
-/
module

public import proofs.«01_k».proof.Proof.Spec
public import proofs.«01_k».proof.Proof.Gen.KernelIdeal.Skeleton

@[expose] public section

set_option maxRecDepth 16384

noncomputable section

namespace Fsq.Block

open Idealize.ShloMosaic Cert.KernelIdeal Cert.KernelIdeal.Gen

variable (x : Vec Ideal S1x512x4096 .f32) (w : Vec Ideal S1x4x512 .f32) (bi : Vec Ideal S1x1x4 .f32)

/-- The block's activation. -/
def bact (t : Fin 4096) (d : Fin 4) : EReal := (∑ k : Fin 512, w (ix3 0 d k) * x (ix3 0 k t)) + bi (ix3 0 0 d)

/-- The block's activation: the input projection and its bias. -/
theorem pay3_apply (d : Fin 4) (t : Fin 4096) : k0_pay3 x w bi (ix2 d t) = bact x w bi t d := by
  unfold bact
  pointwise [k0_pay3]

/-- The first level, as a float. -/
theorem pay4_apply (d : Fin 4) (t : Fin 4096) : k0_pay4 x w bi (ix2 d t) = ((lvl (bact x w bi t d) : ℝ) : EReal) := by
  pointwise [k0_pay4, pay3_apply]
  rw [bits_half_l, round_tanh]

/-- The second level, as a float. -/
theorem pay6_apply (d : Fin 4) (t : Fin 4096) :
    k0_pay6 x w bi (ix2 d t) = ((lvl (resid (bact x w bi t d)) : ℝ) : EReal) := by
  pointwise [k0_pay6, k0_pay5, pay4_apply, pay3_apply]
  rw [bits_half_l, bits_half, bits_four]
  exact round_tanh _

/-- The quantized activation. -/
theorem pay7_apply (d : Fin 4) (t : Fin 4096) : k0_pay7 x w bi (ix2 d t) = quant (bact x w bi t d) := by
  pointwise [k0_pay7, k0_pay5, pay6_apply, pay4_apply]
  rw [bits_half, bits_quarter]
  rfl

/-- The stored feature block. -/
theorem pay8_apply (wo : Vec Ideal S1x512x4 .f32) (bo : Vec Ideal S1x1x512 .f32) (k : Fin 512) (t : Fin 4096) :
    k0_pay8 (k0_pay7 x w bi) wo bo (ix3 0 k t)
      = (∑ d : Fin 4, wo (ix3 0 k d) * quant (bact x w bi t d)) + bo (ix3 0 0 k) := by
  pointwise [k0_pay8, pay7_apply]

/-! ## Indices -/

/-- The first two digits' word at quantizer 0. -/
theorem pay10_apply (t : Fin 4096) :
    k0_pay10 (k0_pay4 x w bi) (ix2 0 t) = BitVec.ofNat 32 (low 0 (bact x w bi t)) := by
  pointwise [k0_pay10, k0_pay9, pay4_apply]
  rw [bits_two, bits_five]
  exact pair_word _ _

/-- The last two digits' word at quantizer 0. -/
theorem pay11_apply (t : Fin 4096) :
    k0_pay11 (k0_pay4 x w bi) (ix2 0 t) = BitVec.ofNat 32 (high 0 (bact x w bi t)) := by
  pointwise [k0_pay11, k0_pay9, pay4_apply]
  rw [bits_two, bits_five]
  exact pair_word _ _

/-- The first two digits' word at quantizer 1. -/
theorem pay16_apply (t : Fin 4096) :
    k0_pay16 (k0_pay6 x w bi) (ix2 0 t) = BitVec.ofNat 32 (low 1 (bact x w bi t)) := by
  pointwise [k0_pay16, k0_pay15, pay6_apply]
  rw [bits_two, bits_five]
  exact pair_word _ _

/-- The last two digits' word at quantizer 1. -/
theorem pay17_apply (t : Fin 4096) :
    k0_pay17 (k0_pay6 x w bi) (ix2 0 t) = BitVec.ofNat 32 (high 1 (bact x w bi t)) := by
  pointwise [k0_pay17, k0_pay15, pay6_apply]
  rw [bits_two, bits_five]
  exact pair_word _ _

/-- The index's word, from the words of its two halves. -/
theorem index_words (r : Fin 2) (z : Fin 4 → EReal) :
    IntOp.addi (BitVec.ofNat 32 (low r z)) (IntOp.muli 25#32 (BitVec.ofNat 32 (high r z)))
      = BitVec.ofNat 32 (index r z) := by
  unfold index IntOp.addi IntOp.muli
  rw [BitVec.ofNat_add, BitVec.ofNat_mul]

/-- The stored index block: row `r` holds the words of quantizer `r`'s indices. -/
theorem pay19_apply (r : Fin 2) (t : Fin 4096) :
    k0_pay19 (k0_pay6 x w bi) (k0_pay12 (k0_pay4 x w bi)) (ix4 0 0 r t)
      = BitVec.ofNat 32 (index r (bact x w bi t)) := by
  pointwise [k0_pay19, k0_pay12, pay10_apply, pay11_apply, pay16_apply, pay17_apply]
  obtain h | h : r = 0 ∨ r = 1 := by omega
  · subst h
    exact (congrArg₂ (fun a b => IntOp.addi a (IntOp.muli 25#32 b)) (pay10_apply x w bi t) (pay11_apply x w bi t)).trans
      (index_words _ _)
  · subst h
    exact (congrArg₂ (fun a b => IntOp.addi a (IntOp.muli 25#32 b)) (pay16_apply x w bi t) (pay17_apply x w bi t)).trans
      (index_words _ _)

/-! ## Counts -/

/-- A comparison of two small naturals' words, widened and converted, is one where they agree and zero elsewhere. -/
theorem onehot (a b : ℕ) (ha : a < 25) (hb : b < 25) :
    FloatOps.sitofp (F := Ideal) .f32 (BitVec.setWidth 32 (IntOp.cmpi .eq (BitVec.ofNat 32 a) (BitVec.ofNat 32 b)))
      = if a = b then (1 : EReal) else 0 := by
  rw [show IntOp.cmpi .eq (BitVec.ofNat 32 a) (BitVec.ofNat 32 b) = BitVec.ofBool (decide (a = b)) from by
    unfold IntOp.cmpi
    simp only []
    congr 1
    rw [Bool.eq_iff_iff]
    simp [word_eq a b (by omega) (by omega)]]
  show (((BitVec.setWidth 32 (BitVec.ofBool (decide (a = b)))).toInt : ℝ) : EReal) = _
  by_cases h : a = b
  · simp [h]
  · simp [h]

/-- The product of the two halves' indicators is the indicator of the bin. -/
theorem joint (r : Fin 2) (z : Fin 4 → EReal) (j i : Fin 25) :
    (if j.val = high r z then (1 : EReal) else 0) * (if i.val = low r z then 1 else 0)
      = if index r z = 25 * j.val + i.val then 1 else 0 := by
  have h := index_eq_iff r z j.val i.val i.isLt
  by_cases hj : j.val = high r z <;> by_cases hi : i.val = low r z
  · rw [if_pos hj, if_pos hi, if_pos (h.2 ⟨hj.symm, hi.symm⟩), one_mul]
  · rw [if_neg hi, mul_zero, if_neg fun e => hi (h.1 e).2.symm]
  · rw [if_neg hj, zero_mul, if_neg fun e => hj (h.1 e).1.symm]
  · rw [if_neg hj, zero_mul, if_neg fun e => hj (h.1 e).1.symm]

/-- The joint count of one block, added to what was loaded, at quantizer 0. -/
theorem pay14_apply (h : Vec Ideal S1x25x25 .f32) (j i : Fin 25) :
    k0_pay14 (k0_pay13 (k0_pay4 x w bi) h) (ix3 0 j i)
      = h (ix3 0 j i) + ∑ t : Fin 4096, if index 0 (bact x w bi t) = 25 * j.val + i.val then 1 else 0 := by
  pointwise [k0_pay14, k0_pay13, pay10_apply, pay11_apply]
  refine congrArg (h (ix3 0 j i) + ·) ?_
  refine Finset.sum_congr rfl fun t _ => ?_
  rw [← joint, ← onehot _ _ j.isLt (high_lt _ _), ← onehot _ _ i.isLt (low_lt _ _)]

/-- The joint count of one block, added to what was loaded, at quantizer 1. -/
theorem pay18_apply (h : Vec Ideal S1x25x25 .f32) (j i : Fin 25) :
    k0_pay18 (k0_pay6 x w bi) (iota .tc S25x4096 32 [0] iota_S25x4096_d0_w32) h (ix3 0 j i)
      = h (ix3 0 j i) + ∑ t : Fin 4096, if index 1 (bact x w bi t) = 25 * j.val + i.val then 1 else 0 := by
  pointwise [k0_pay18, pay16_apply, pay17_apply]
  refine congrArg (h (ix3 0 j i) + ·) ?_
  refine Finset.sum_congr rfl fun t _ => ?_
  rw [← joint, ← onehot _ _ j.isLt (high_lt _ _), ← onehot _ _ i.isLt (low_lt _ _)]

/-- A sum over both halves of a bin is a sum over the bins. -/
theorem sum_bins (f : Fin 25 → Fin 25 → EReal) :
    ∑ j, ∑ i, f j i = ∑ n : Fin 625, f ⟨n.val / 25, by omega⟩ ⟨n.val % 25, by omega⟩ := by
  rw [← Fintype.sum_prod_type']
  exact Fintype.sum_equiv (finProdFinEquiv.trans (finCongr (by norm_num))) _ _ fun p => by
    obtain ⟨a, b⟩ := p
    have hv : ((finProdFinEquiv.trans (finCongr (by norm_num)) (a, b) : Fin 625).val) = b.val + 25 * a.val := rfl
    congr 2 <;> rw [Fin.ext_iff] <;> simp only [hv] <;> omega

/-- The stored perplexity. -/
theorem pay1_apply (h : Vec Ideal S2x25x25 .f32) (r : Fin 2) :
    k0_pay1 h (ix3 0 0 r) = perp fun n => h (ix3 r ⟨n.val / 25, by omega⟩ ⟨n.val % 25, by omega⟩) := by
  pointwise [k0_pay1]
  simp only [sum_bins]
  rw [zero_sub]
  rfl

end Fsq.Block

end
-- ==== Proof.KernelPoint.lean ====
/-
  What each grid point leaves: the two blocks it writes, the counts it carries on, and, at the last batch, the
  perplexity it writes.
-/
module

public import proofs.«01_k».proof.Proof.KernelBlock
public import proofs.«01_k».proof.Proof.Gen.KernelIdeal.Frame
public import Idealize.ShloMosaic.Lib.Pipeline.ValueKit
public import Idealize.ShloMosaic.Lib.Pipeline.ReadBack

@[expose] public section

set_option maxRecDepth 16384

noncomputable section

namespace Fsq.Point

open Idealize.ShloMosaic Idealize.ShloMosaic.TcCoe Cert.KernelIdeal Cert.KernelIdeal.Gen

variable (m : (ℓ : Loc nD τ sig) → Buf (Elt Ideal) ℓ) (c : Dev nD)

/-- The activation of token `k` of the block loaded at point `t`. -/
abbrev zat (t : Fin cfg0.N) : Fin 4096 → Fin 4 → EReal := Block.bact (iblk m c 0 t) (iblk m c 1 t) (iblk m c 2 t)

/-- Every point is a first, a middle or a last batch of its group. -/
theorem cases_point {P : Prop} (t : Fin cfg0.N) (hA : t.val % 4 = 0 → ¬t.val % 4 = 3 → P)
    (hB : ¬t.val % 4 = 0 → ¬t.val % 4 = 3 → P) (hC : ¬t.val % 4 = 0 → t.val % 4 = 3 → P) : P := by
  by_cases h0 : t.val % 4 = 0
  · exact hA h0 (by omega)
  · by_cases h1 : t.val % 4 = 3
    · exact hC h0 h1
    · exact hB h0 h1

/-- The feature block a point leaves. -/
theorem feat_block (t : Fin cfg0.N) : (outsAt0 m c t.val t.isLt).1
    = k0_pay8 (k0_pay7 (iblk m c 0 t) (iblk m c 1 t) (iblk m c 2 t)) (iblk m c 3 t) (iblk m c 4 t) := by
  refine cases_point t (fun h0 h1 => ?_) (fun h0 h1 => ?_) (fun h0 h1 => ?_)
  · rw [outsAt0_A m c t h0 h1]; frame_out
  · rw [outsAt0_B m c t h0 h1]; frame_out
  · rw [outsAt0_C m c t h0 h1]; frame_out

/-- The index block a point leaves. -/
theorem ind_block (t : Fin cfg0.N) : (outsAt0 m c t.val t.isLt).2.1
    = k0_pay19 (k0_pay6 (iblk m c 0 t) (iblk m c 1 t) (iblk m c 2 t))
        (k0_pay12 (k0_pay4 (iblk m c 0 t) (iblk m c 1 t) (iblk m c 2 t))) := by
  refine cases_point t (fun h0 h1 => ?_) (fun h0 h1 => ?_) (fun h0 h1 => ?_)
  · rw [outsAt0_A m c t h0 h1]; frame_out
  · rw [outsAt0_B m c t h0 h1]; frame_out
  · rw [outsAt0_C m c t h0 h1]; frame_out

/-- Two rows written one after the other, read in the second one written. -/
theorem row_one (P Q : Vec Ideal S1x25x25 .f32) (L : List (View.Piece (Elt Ideal) S2x25x25 .f32)) (j i : Fin 25) :
    View.canon (⟨Rect.unit (s := S2x25x25) ![1, 0, 0] ![1, 25, 25] inb_S2x25x25_S1x25x25_1_0_0, P⟩
      :: ⟨Rect.unit (s := S2x25x25) ![0, 0, 0] ![1, 25, 25] inb_S2x25x25_S1x25x25_0_0_0, Q⟩ :: L) (ix3 1 j i)
      = P (ix3 0 j i) := by
  rw [show (ix3 1 j i : S2x25x25.Idx)
    = (Rect.unit (s := S2x25x25) ![1, 0, 0] ![1, 25, 25] inb_S2x25x25_S1x25x25_1_0_0).emb (ix3 0 j i) from
      (Rect.emb_eq_of_coords _ _ _ fun a => by fin_cases a <;> simp).symm]
  exact View.canon_cons_emb _ _ _ _

/-- Two rows written one after the other, read in the first one written. -/
theorem row_zero (P Q : Vec Ideal S1x25x25 .f32) (L : List (View.Piece (Elt Ideal) S2x25x25 .f32)) (j i : Fin 25) :
    View.canon (⟨Rect.unit (s := S2x25x25) ![1, 0, 0] ![1, 25, 25] inb_S2x25x25_S1x25x25_1_0_0, P⟩
      :: ⟨Rect.unit (s := S2x25x25) ![0, 0, 0] ![1, 25, 25] inb_S2x25x25_S1x25x25_0_0_0, Q⟩ :: L) (ix3 0 j i)
      = Q (ix3 0 j i) := by
  rw [View.canon_cons_of_not_mem _ _ (Rect.not_mem_set_of_axis _ _ (0 : Fin 3) 1 1 rfl rfl rfl (.inl (show (0 : ℕ) < 1 by decide)))]
  rw [show (ix3 0 j i : S2x25x25.Idx)
    = (Rect.unit (s := S2x25x25) ![0, 0, 0] ![1, 25, 25] inb_S2x25x25_S1x25x25_0_0_0).emb (ix3 0 j i) from
      (Rect.emb_eq_of_coords _ _ _ fun a => by fin_cases a <;> simp).symm]
  exact View.canon_cons_emb _ _ _ _

/-- The counts a first batch leaves. -/
theorem hist_first (t : Fin cfg0.N) (h0 : t.val % 4 = 0) (h1 : ¬t.val % 4 = 3) (r : Fin 2) (j i : Fin 25) :
    (outsAt0 m c t.val t.isLt).2.2.2 (ix3 r j i)
      = 0 + ∑ k : Fin 4096, if index r (zat m c t k) = 25 * j.val + i.val then 1 else 0 := by
  rw [outsAt0_A m c t h0 h1]
  frame_open
  simp (disch := decide) only [↓ View.readCov_skip, ↓ View.readCov_cons_toLoadRect, ↓ View.readCov_fill]
  frame_out
  obtain h | h : r = 0 ∨ r = 1 := by omega
  · subst h
    refine (row_zero _ _ _ j i).trans ?_
    rw [Block.pay14_apply]
    pointwise [k0_pay2]
  · subst h
    refine (row_one _ _ _ j i).trans ?_
    rw [Block.pay18_apply]
    pointwise [k0_pay2]

/-- The counts a later batch leaves. -/
theorem hist_later (t : Fin cfg0.N) (h0 : ¬t.val % 4 = 0) (r : Fin 2) (j i : Fin 25) :
    (outsAt0 m c t.val t.isLt).2.2.2 (ix3 r j i)
      = (outsAt0 m c (t.val - 1) (Nat.lt_of_le_of_lt (Nat.sub_le _ _) t.isLt)).2.2.2 (ix3 r j i)
        + ∑ k : Fin 4096, if index r (zat m c t k) = 25 * j.val + i.val then 1 else 0 := by
  refine cases_point t (fun h _ => absurd h h0) (fun _ h1 => ?_) (fun _ h1 => ?_)
  · rw [outsAt0_B m c t h0 h1]
    frame_open
    simp (disch := decide) only [↓ View.readCov_skip, ↓ View.readCov_cons_toLoadRect, ↓ View.readCov_fill]
    frame_out
    simp only [read_unread_whole]
    obtain h | h : r = 0 ∨ r = 1 := by omega
    · subst h
      refine (row_zero _ _ _ j i).trans ?_
      rw [Block.pay14_apply]
      pointwise
    · subst h
      refine (row_one _ _ _ j i).trans ?_
      rw [Block.pay18_apply]
      pointwise
  · rw [outsAt0_C m c t h0 h1]
    frame_open
    simp (disch := decide) only [↓ View.readCov_skip, ↓ View.readCov_cons_toLoadRect, ↓ View.readCov_fill]
    frame_out
    simp only [read_unread_whole]
    obtain h | h : r = 0 ∨ r = 1 := by omega
    · subst h
      refine (row_zero _ _ _ j i).trans ?_
      rw [Block.pay14_apply]
      pointwise
    · subst h
      refine (row_one _ _ _ j i).trans ?_
      rw [Block.pay18_apply]
      pointwise

/-- The perplexity the last batch writes is that of the counts it leaves. -/
theorem perp_last (t : Fin cfg0.N) (h0 : ¬t.val % 4 = 0) (h1 : t.val % 4 = 3) :
    (outsAt0 m c t.val t.isLt).2.2.1 = k0_pay1 (outsAt0 m c t.val t.isLt).2.2.2 := by
  rw [outsAt0_C m c t h0 h1]
  frame_open
  simp (disch := decide) only [↓ View.readCov_skip, ↓ View.readCov_cons_toLoadRect, ↓ View.readCov_fill]
  frame_out
  exact congrArg k0_pay1 ((View.readCov_eq_canon' _ _ _).trans (View.ld_unit_lit (S := S2x25x25) _ _ (by decide)))

end Fsq.Point

end
-- ==== Proof.KernelArray.lean ====
/-
  What the kernel's result arrays hold after the run: the block written at every grid point, read back at the
  array's own indices.
-/
module

public import proofs.«01_k».proof.Proof.KernelPoint
public import proofs.«01_k».proof.Proof.Gen.KernelIdeal.Value

@[expose] public section

set_option maxRecDepth 16384

noncomputable section

namespace Fsq.Point

open Idealize.ShloMosaic Idealize.ShloMosaic.TcCoe Cert.KernelIdeal Cert.KernelIdeal.Gen

variable (m : (ℓ : Loc nD τ sig) → Buf (Elt Ideal) ℓ) (c : Dev nD)

/-- The five argument arrays. -/
abbrev X : Arr3 4 1024 4096 := m ((c : Thread nD τ).loc main_arg0)
abbrev Win : Arr3 2 4 512 := m ((c : Thread nD τ).loc main_arg1)
abbrev Bin : Arr2 2 4 := m ((c : Thread nD τ).loc main_arg2)
abbrev Wout : Arr3 2 512 4 := m ((c : Thread nD τ).loc main_arg3)
abbrev Bout : Arr2 2 512 := m ((c : Thread nD τ).loc main_arg4)

/-- Which block every window is at. -/
theorem idx : ∀ t : Fin cfg0.N, t.val / 4 < 2 ∧ win0_0.index t = ![t.val % 4, t.val / 4, 0] ∧ win0_1.index t = ![t.val / 4, 0, 0]
    ∧ win0_2.index t = ![t.val / 4, 0, 0] ∧ win0_3.index t = ![t.val / 4, 0, 0] ∧ win0_4.index t = ![t.val / 4, 0, 0]
    ∧ win0_5.index t = ![t.val % 4, t.val / 4, 0] ∧ win0_6.index t = ![t.val % 4, t.val / 4, 0, 0]
    ∧ win0_7.index t = ![t.val / 4, 0, 0] :=
  (by decide +kernel : ∀ t : Fin grid0.N, _)

/-- The group and the batch of a point. -/
def grp (t : Fin cfg0.N) : Fin 2 := ⟨t.val / 4, (idx t).1⟩
/-- The batch of a grid point. -/
def bat (t : Fin cfg0.N) : Fin 4 := ⟨t.val % 4, Nat.mod_lt _ (by norm_num)⟩

/-- A block's activation is the arrays'. -/
theorem zat_eq (t : Fin cfg0.N) (k : Fin 4096) :
    zat m c t k = act (X m c) (Win m c) (Bin m c) (bat t) (grp t) k := by
  funext d
  show (∑ q : Fin 512, _) + _ = (∑ q : Fin 512, _) + _
  unfold chan grp bat
  blk_point [iblk, V, idx t]

/-- The output bias block of a point. -/
theorem out_block (t : Fin cfg0.N) (k : Fin 512) :
    (∀ d : Fin 4, iblk m c 3 t (ix3 0 k d) = Wout m c (ix3 (grp t) k d)) ∧ iblk m c 4 t (ix3 0 0 k) = Bout m c (ix2 (grp t) k) := by
  unfold grp
  refine ⟨fun d => ?_, ?_⟩
  · blk_point [iblk, V, idx t]
  · blk_point [iblk, V, idx t]

/-- A point's feature block, at an index. -/
theorem feat_at (t : Fin cfg0.N) (k : Fin 512) (q : Fin 4096) :
    (outsAt0 m c t.val t.isLt).1 (ix3 0 k q)
      = feat (X m c) (Win m c) (Bin m c) (Wout m c) (Bout m c) (bat t) (grp t) k q := by
  rw [feat_block m c t, Block.pay8_apply]
  have hb := out_block m c t k
  unfold feat
  rw [hb.2]
  refine congrArg (· + _) (Finset.sum_congr rfl fun d _ => ?_)
  rw [hb.1 d, ← zat_eq m c t q]

/-- A point's index block, at an index. -/
theorem ind_at (t : Fin cfg0.N) (r : Fin 2) (q : Fin 4096) :
    (outsAt0 m c t.val t.isLt).2.1 (ix4 0 0 r q)
      = BitVec.ofNat 32 (index r (act (X m c) (Win m c) (Bin m c) (bat t) (grp t) q)) := by
  rw [ind_block m c t, Block.pay19_apply, ← zat_eq m c t q]

/-- The feature array. -/
def featArr : Arr3 4 1024 4096 := fun i =>
  feat (X m c) (Win m c) (Bin m c) (Wout m c) (Bout m c) ⟨(i 0).val, (i 0).isLt⟩
    ⟨(i 1).val / 512, by have : (i 1).val < 1024 := (i 1).isLt; omega⟩ ⟨(i 1).val % 512, Nat.mod_lt _ (by norm_num)⟩ ⟨(i 2).val, (i 2).isLt⟩

/-- The index array. -/
def indArr : IVec S4x2x2x4096 32 := fun i =>
  BitVec.ofNat 32 (index ⟨(i 2).val, (i 2).isLt⟩
    (act (X m c) (Win m c) (Bin m c) ⟨(i 0).val, (i 0).isLt⟩ ⟨(i 1).val, (i 1).isLt⟩ ⟨(i 3).val, (i 3).isLt⟩))

/-- The perplexity array. -/
def perpArr : Arr3 2 1 2 := fun i =>
  perp fun n => hist (X m c) (Win m c) (Bin m c) ⟨(i 0).val, (i 0).isLt⟩ ⟨(i 2).val, (i 2).isLt⟩ n.val

/-- The feature array at a channel of a group. -/
theorem featArr_at (b : Fin 4) (g : Fin 2) (k : Fin 512) (q : Fin 4096) :
    featArr m c (ix3 b (chan g k) q) = feat (X m c) (Win m c) (Bin m c) (Wout m c) (Bout m c) b g k q := by
  show feat _ _ _ _ _ b ⟨(g.val * 512 + k.val) / 512, _⟩ ⟨(g.val * 512 + k.val) % 512, _⟩ q = _
  congr 1 <;> rw [Fin.ext_iff] <;> dsimp only <;> omega

/-- The index array at a token. -/
theorem indArr_at (b : Fin 4) (g r : Fin 2) (q : Fin 4096) :
    indArr m c (ix4 b g r q) = BitVec.ofNat 32 (index r (act (X m c) (Win m c) (Bin m c) b g q)) := rfl

/-- The perplexity array at a group and quantizer. -/
theorem perpArr_at (g r : Fin 2) :
    perpArr m c (ix3 g 0 r) = perp fun n => hist (X m c) (Win m c) (Bin m c) g r n.val := rfl

/-- The feature array after the run. -/
theorem final_feat : (dats m 0 c).arrAt 5 cfg0.N = featArr m c := by
  refine (dats m 0 c).arrAt_eq_of_covers 5 _ (by decide +kernel) fun t hf y => ?_
  blk_simp
  rw [after0_5]
  idx_vars y
  obtain rfl : y0 = 0 := Subsingleton.elim _ _
  refine (feat_at m c t y1 y2).trans ((featArr_at m c (bat t) (grp t) y1 y2).symm.trans (congrArg (featArr m c) ?_))
  unfold bat grp chan
  blk_ext [idx t]

/-- The index array after the run. -/
theorem final_ind : (dats m 0 c).arrAt 6 cfg0.N = indArr m c := by
  refine (dats m 0 c).arrAt_eq_of_covers 6 _ (by decide +kernel) fun t hf y => ?_
  blk_simp
  rw [after0_6]
  idx_vars y
  obtain rfl : y0 = 0 := Subsingleton.elim _ _
  obtain rfl : y1 = 0 := Subsingleton.elim _ _
  refine (ind_at m c t y2 y3).trans ((indArr_at m c (bat t) (grp t) y2 y3).symm.trans (congrArg (indArr m c) ?_))
  unfold bat grp
  blk_ext [idx t]

/-- The counts after the last batch of a group: over all its batches. -/
theorem hist_last (t : Fin cfg0.N) (h1 : t.val % 4 = 3) (r : Fin 2) (j i : Fin 25) :
    (outsAt0 m c t.val t.isLt).2.2.2 (ix3 r j i)
      = hist (X m c) (Win m c) (Bin m c) (grp t) r (25 * j.val + i.val) := by
  have h := Pipeline.eq_sum_fin_of_reset_step_of_flush
    (fun n h => (outsAt0 m c n h).2.2.2 (ix3 r j i)) 4 0
    (fun t => ∑ k : Fin 4096, if index r (zat m c t k) = 25 * j.val + i.val then (1 : EReal) else 0)
    (fun t h => hist_first m c t h (by omega) r j i) (fun t h => hist_later m c t h r j i) t h1
  refine h.trans ?_
  rw [zero_add]
  unfold hist
  refine Finset.sum_congr rfl fun b _ => Finset.sum_congr rfl fun k _ => ?_
  rw [zat_eq]
  have hb : bat ⟨4 * (t.val / 4) + b.val, Pipeline.run_point_lt_of_flush t h1 b⟩ = b := by
    unfold bat; rw [Fin.ext_iff]; dsimp only; omega
  have hg : grp ⟨4 * (t.val / 4) + b.val, Pipeline.run_point_lt_of_flush t h1 b⟩ = grp t := by
    unfold grp; rw [Fin.ext_iff]; dsimp only; omega
  rw [hb, hg]

/-- The perplexity array after the run. -/
theorem final_perp : (dats m 0 c).arrAt 7 cfg0.N = perpArr m c := by
  refine (dats m 0 c).arrAt_eq_of_covers 7 _ (by decide +kernel) fun t hf y => ?_
  have h1 : t.val % 4 = 3 := (flush0_7 t).mp hf
  blk_simp
  rw [after0_7, perp_last m c t (by omega) h1]
  idx_vars y
  obtain rfl : y0 = 0 := Subsingleton.elim _ _
  obtain rfl : y1 = 0 := Subsingleton.elim _ _
  refine (Block.pay1_apply _ y2).trans (Eq.trans ?_ ((perpArr_at m c (grp t) y2).symm.trans (congrArg (perpArr m c) ?_)))
  · congr 1
    funext n
    rw [hist_last m c t h1]
    congr 1
    dsimp only
    omega
  · unfold grp
    blk_ext [idx t]

/-- The zeros that the program returns beside the kernel's arrays. -/
theorem V_zeros : V m c main_v0 = fun _ => (0 : EReal) := by
  funext i
  entry_read
  pointwise

/-- The kernel's run: the four results as functions of the arguments, the arguments unchanged. -/
theorem run (ρ : Dev nD → PrngReg) : θ_run defs (onTc (τ := τ) (main (F := Ideal))) ⟨m, fun _ => 0, ρ⟩ fun r => ∀ c : Dev nD,
      r.2.mem ((c : Thread nD τ).loc main_v0) = (fun _ => (0 : EReal) : S4.Idx → EReal)
      ∧ r.2.mem ((c : Thread nD τ).loc main_v3_0) = featArr m c
      ∧ r.2.mem ((c : Thread nD τ).loc main_v3_2) = perpArr m c
      ∧ r.2.mem ((c : Thread nD τ).loc main_v3_1) = indArr m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c =>
    ⟨((h c).2 main_v0 (Pipeline.mem_restRefs_of main_v0 (by decide) (by decide))).trans (V_zeros m c),
      (Value.post5 m r h c).trans (final_feat m c),
      (Value.post7 m r h c).trans (final_perp m c),
      (Value.post6 m r h c).trans (final_ind m c),
      Value.kept_main_arg0 m r h c, Value.kept_main_arg1 m r h c, Value.kept_main_arg2 m r h c,
      Value.kept_main_arg3 m r h c, Value.kept_main_arg4 m r h c⟩)
    (run_main m ρ)

end Fsq.Point

end
-- ==== Proof.ReferenceConst.lean ====
/-
  The reference's constants: the scales, the half widths, the bound and the shift that it computes from the
  number of levels, at every digit.
-/
module

public import proofs.«01_k».proof.Proof.Spec
public import proofs.«01_k».proof.Proof.Gen.ReferenceIdeal.Run
public import Idealize.ShloMosaic.Lib.Pipeline.ValueKit

@[expose] public section

set_option maxRecDepth 16384

noncomputable section

namespace Fsq.Ref

open Idealize.ShloMosaic Idealize.ShloMosaic.TcCoe Cert.ReferenceIdeal Cert.ReferenceIdeal.Value

variable (V0 : Valuation τ sig (Elt Ideal))

/-- The number of levels of every digit. -/
theorem cst_at (d : Fin 4) : res_main_cst V0 (ix1 d) = ((5 : ℝ) : EReal) := by
  pointwise [res_main_cst]
  exact bits_five

/-- The first quantizer's scale. -/
theorem v19_at (d : Fin 4) : res_main_v19 V0 (ix1 d) = ((1 : ℝ) : EReal) := by
  pointwise [res_main_v19, cst_at]
  rw [bits_neg_zero]
  exact scale_zero

/-- The second quantizer's scale. -/
theorem v75_at (d : Fin 4) : res_main_v75 V0 (ix1 d) = ((1 / 4 : ℝ) : EReal) := by
  pointwise [res_main_v75, cst_at]
  rw [bits_neg_one]
  exact scale_one

/-- Half the width of a level. -/
theorem v25_at (d : Fin 4) : res_main_v25 V0 (ix1 d) = ((2 : ℝ) : EReal) := by
  pointwise [res_main_v25, cst_at]
  rw [bits_two]
  exact width

/-- The bound of a level. -/
theorem v31_at (d : Fin 4) : res_main_v31 V0 (ix1 d) = (half : EReal) := by
  pointwise [res_main_v31, cst_at]
  rw [bits_two, bits_1001]
  exact bound_eq

/-- The offset: zero, the number of levels being odd. -/
theorem v35_at (d : Fin 4) : res_main_v35 V0 (ix1 d) = (0 : EReal) := by
  pointwise [res_main_v35, res_main_call0_v2, res_main_call0_v0, cst_at]
  have h2 : id (constant (F := Ideal) S_ .f32 0x40000000#32) ix0 = ((2 : ℝ) : EReal) := bits_two
  have h1 : ((1 : ℝ) : EReal) ≠ 0 := by norm_num
  have n1 : ¬ ((1 : ℝ) : EReal) < 0 := by norm_num
  have n2 : ¬ ((2 : ℝ) : EReal) < 0 := by norm_num
  simp only [h2, rem_eq, decide_eq_false n1, decide_eq_false n2, decide_eq_true h1]
  exact if_neg h1

/-- The weights of the four digits. -/
theorem basis_at : res_main_cst_0 V0 (ix1 0) = ((1 : ℝ) : EReal) ∧ res_main_cst_0 V0 (ix1 1) = ((5 : ℝ) : EReal)
    ∧ res_main_cst_0 V0 (ix1 2) = ((25 : ℝ) : EReal) ∧ res_main_cst_0 V0 (ix1 3) = ((125 : ℝ) : EReal) :=
  ⟨bits_one, bits_five, bits_25, bits_125⟩

/-- The activation of group 0. -/
theorem v14_at (b : Fin 4) (t : Fin 4096) (d : Fin 4) : res_main_v14 V0 (ix3 b t d)
    = act (V0 (Proc.devRef .tc main_arg0)) (V0 (Proc.devRef .tc main_arg1)) (V0 (Proc.devRef .tc main_arg2)) b 0 t d := by
  unfold act
  pointwise [res_main_v14, res_main_v0]
  refine congrArg (· + _) (Finset.sum_congr rfl fun k _ => ?_)
  rw [mul_comm]
  congr 3
  rw [Fin.ext_iff]
  simp

/-- The activation of group 1. -/
theorem v146_at (b : Fin 4) (t : Fin 4096) (d : Fin 4) : res_main_v146 V0 (ix3 b t d)
    = act (V0 (Proc.devRef .tc main_arg0)) (V0 (Proc.devRef .tc main_arg1)) (V0 (Proc.devRef .tc main_arg2)) b 1 t d := by
  unfold act
  pointwise [res_main_v146, res_main_v0]
  refine congrArg (· + _) (Finset.sum_congr rfl fun k _ => ?_)
  rw [mul_comm]
  congr 3

end Fsq.Ref

end
-- ==== Proof.ReferenceLevel.lean ====
/-
  The reference's two levels of quantization: what it rounds, the codes, the quantized activation and the index
  word, at every token.
-/
module

public import proofs.«01_k».proof.Proof.ReferenceConst

@[expose] public section

set_option maxRecDepth 16384

noncomputable section

namespace Fsq.Ref

open Idealize.ShloMosaic Idealize.ShloMosaic.TcCoe Cert.ReferenceIdeal Cert.ReferenceIdeal.Gen Cert.ReferenceIdeal.Value

/-- An array over batches, tokens and digits, and a row over the digits. -/
abbrev Arr := FVec Ideal S4x4096x4 .f32
abbrev Row := FVec Ideal S4 .f32

/-- A row repeated at every token. -/
def spread (r : Row) : Arr :=
  broadcastInDim S4x4096x4 ![0, 1, 2] bcast_S1x1x4_S4x4096x4_0_1_2 (broadcastInDim S1x1x4 ![2] bcast_S4_S1x1x4_2 r)

/-- A repeated row reads the row's digit at every token. -/
theorem spread_at (r : Row) (b : Fin 4) (t : Fin 4096) (d : Fin 4) : spread r (ix3 b t d) = r (ix1 d) := by
  pointwise [spread]

/-- What one quantizer rounds: the scaled activation, shifted and bounded. -/
def bounded (z : Arr) (s o l : Row) : Arr :=
  subf (mulf (Host.tanh (addf (Host.divf z (spread s)) (spread (Host.atanh (Host.divf o l))))) (spread l)) (spread o)

/-- One quantizer's codes: the rounded bounded activation over the half width. -/
def codes (z : Arr) (s o l w : Row) : Arr :=
  Host.divf (addf (bounded z s o l) (subf (Host.roundeven (bounded z s o l)) (bounded z s o l))) (spread w)

/-- One quantizer's index words: the codes' digits, weighted and summed. -/
def words (q : Arr) (w v : Row) : IVec S4x4096 32 :=
  fptosi 32 (Host.reduceAdd (mulf (addf (mulf q (spread w)) (spread w)) (spread v)) (constant S_ .f32 0x00000000#32) reducesTo_S4x4096x4_S4x4096_d2 h_S_)

section
variable (z : Arr) (s o l w : Row) (σ : EReal) (hs : ∀ d : Fin 4, s (ix1 d) = σ) (ho : ∀ d : Fin 4, o (ix1 d) = 0)
  (hl : ∀ d : Fin 4, l (ix1 d) = (half : EReal)) (hw : ∀ d : Fin 4, w (ix1 d) = ((2 : ℝ) : EReal))
include hs ho hl

/-- What is rounded is the hyperbolic tangent of the scaled activation, times the bound. -/
theorem bounded_at (b : Fin 4) (t : Fin 4096) (d : Fin 4) :
    bounded z s o l (ix3 b t d) = Ideal.tanh (Ideal.div (z (ix3 b t d)) σ) * (half : EReal) := by
  pointwise [bounded, spread_at, hs, ho, hl]
  rw [shift_zero, add_zero]

include hw
/-- The codes are half the level. -/
theorem codes_at (b : Fin 4) (t : Fin 4096) (d : Fin 4) :
    codes z s o l w (ix3 b t d) = ((lvl (Ideal.div (z (ix3 b t d)) σ) : ℝ) : EReal) * ((1 / 2 : ℝ) : EReal) := by
  have h := bounded_at z s o l σ hs ho hl b t d
  pointwise [codes, spread_at, h, hw]
  rw [round_ste, div_two]
end

/-- The words of codes that are half the levels of `x`. -/
theorem words_at (q : Arr) (w v : Row) (x : Fin 4 → EReal) (b : Fin 4) (t : Fin 4096)
    (hq : ∀ d : Fin 4, q (ix3 b t d) = ((lvl (x d) : ℝ) : EReal) * ((1 / 2 : ℝ) : EReal))
    (hw : ∀ d : Fin 4, w (ix1 d) = ((2 : ℝ) : EReal))
    (h0 : v (ix1 0) = ((1 : ℝ) : EReal)) (h1 : v (ix1 1) = ((5 : ℝ) : EReal)) (h2 : v (ix1 2) = ((25 : ℝ) : EReal))
    (h3 : v (ix1 3) = ((125 : ℝ) : EReal)) :
    words q w v (ix2 b t) = BitVec.ofNat 32 (dig (x 0) + 5 * dig (x 1) + 25 * (dig (x 2) + 5 * dig (x 3))) := by
  pointwise [words, spread_at, hq, hw]
  simp only [zhat_eq]
  rw [Fin.sum_univ_four, h0, h1, h2, h3]
  exact index_word _ _ _ _

/-- The residual after the first quantizer, over the second quantizer's scale. -/
theorem resid_div (z : EReal) :
    Ideal.div (z - ((lvl z : ℝ) : EReal) * ((1 / 2 : ℝ) : EReal) * ((1 : ℝ) : EReal)) ((1 / 4 : ℝ) : EReal) = resid z := by
  rw [div_quarter, EReal.coe_one, mul_one]
  rfl

variable (V0 : Valuation τ sig (Elt Ideal))

/-- The first group's codes at the first quantizer. -/
theorem v55_eq : res_main_v55 V0 = codes (res_main_v14 V0) (res_main_v19 V0) (res_main_v35 V0) (res_main_v31 V0) (res_main_v25 V0) := rfl
/-- The first group's codes at the second quantizer. -/
theorem v111_eq : res_main_v111 V0 = codes (res_main_v70 V0) (res_main_v75 V0) (res_main_v35 V0) (res_main_v31 V0) (res_main_v25 V0) := rfl
/-- The second group's codes at the first quantizer. -/
theorem v187_eq : res_main_v187 V0 = codes (res_main_v146 V0) (res_main_v19 V0) (res_main_v35 V0) (res_main_v31 V0) (res_main_v25 V0) := rfl
/-- The second group's codes at the second quantizer. -/
theorem v243_eq : res_main_v243 V0 = codes (res_main_v202 V0) (res_main_v75 V0) (res_main_v35 V0) (res_main_v31 V0) (res_main_v25 V0) := rfl

/-- The first quantizer's codes over an array of activations `z`, and the second's. -/
def first (z : Arr) : Arr := codes z (res_main_v19 V0) (res_main_v35 V0) (res_main_v31 V0) (res_main_v25 V0)
/-- What the first quantizer leaves. -/
def left (z : Arr) : Arr := subf z (mulf (first V0 z) (spread (res_main_v19 V0)))
/-- The second quantizer's codes. -/
def second (z : Arr) : Arr := codes (left V0 z) (res_main_v75 V0) (res_main_v35 V0) (res_main_v31 V0) (res_main_v25 V0)
/-- The quantized activations: both quantizers' codes at their scales, summed from zero. -/
def total (z : Arr) : Arr :=
  addf (addf (broadcastInDim S4x4096x4 ![] bcast_S_S4x4096x4 (constant S_ .f32 0x00000000#32))
    (mulf (first V0 z) (spread (res_main_v19 V0)))) (mulf (second V0 z) (spread (res_main_v75 V0)))

variable (z : Arr) (b : Fin 4) (t : Fin 4096) (d : Fin 4)

/-- The first codes are half the level. -/
theorem first_at : first V0 z (ix3 b t d) = ((lvl (z (ix3 b t d)) : ℝ) : EReal) * ((1 / 2 : ℝ) : EReal) := by
  have h := codes_at z _ _ _ _ _ (v19_at V0) (v35_at V0) (v31_at V0) (v25_at V0) b t d
  rwa [div_one] at h

/-- The activation less half its level. -/
theorem left_at : left V0 z (ix3 b t d)
    = z (ix3 b t d) - ((lvl (z (ix3 b t d)) : ℝ) : EReal) * ((1 / 2 : ℝ) : EReal) * ((1 : ℝ) : EReal) := by
  pointwise [left, first_at, spread_at, v19_at]

/-- The second codes are half the level of the scaled residual. -/
theorem second_at : second V0 z (ix3 b t d) = ((lvl (resid (z (ix3 b t d))) : ℝ) : EReal) * ((1 / 2 : ℝ) : EReal) := by
  have h := codes_at (left V0 z) _ _ _ _ _ (v75_at V0) (v35_at V0) (v31_at V0) (v25_at V0) b t d
  rwa [left_at, resid_div] at h

/-- The quantized activation of a token. -/
theorem total_at : total V0 z (ix3 b t d) = quant (z (ix3 b t d)) := by
  have h19 := v19_at V0 d
  have h75 := v75_at V0 d
  pointwise [total, first_at, second_at, spread_at, h19, h75]
  rw [EReal.coe_one, mul_one]
  rfl

/-- Quantizer `r`'s index words over an array of activations. -/
def ind0 : IVec S4x4096 32 := words (first V0 z) (res_main_v25 V0) (res_main_cst_0 V0)
/-- The second quantizer's index words. -/
def ind1 : IVec S4x4096 32 := words (second V0 z) (res_main_v25 V0) (res_main_cst_0 V0)

/-- A token's first index word. -/
theorem ind0_at : ind0 V0 z (ix2 b t) = BitVec.ofNat 32 (index 0 fun d => z (ix3 b t d)) := by
  obtain ⟨h0, h1, h2, h3⟩ := basis_at V0
  exact words_at _ _ _ (fun d => z (ix3 b t d)) b t (first_at V0 z b t) (v25_at V0) h0 h1 h2 h3

/-- A token's second index word. -/
theorem ind1_at : ind1 V0 z (ix2 b t) = BitVec.ofNat 32 (index 1 fun d => z (ix3 b t d)) := by
  obtain ⟨h0, h1, h2, h3⟩ := basis_at V0
  exact words_at _ _ _ (fun d => resid (z (ix3 b t d))) b t (second_at V0 z b t) (v25_at V0) h0 h1 h2 h3

end Fsq.Ref

end
-- ==== Proof.ReferenceArray.lean ====
/-
  The reference's arrays: the index words of every group and quantizer, the counts over the tokens, the
  perplexities and the output projection, each at an index.
-/
module

public import proofs.«01_k».proof.Proof.ReferenceLevel

@[expose] public section

set_option maxRecDepth 16384

noncomputable section

namespace Fsq.Ref

open Idealize.ShloMosaic Idealize.ShloMosaic.TcCoe Cert.ReferenceIdeal Cert.ReferenceIdeal.Gen Cert.ReferenceIdeal.Value

/-! ## Counting -/

/-- A comparison of two small naturals' words, converted, is one where they agree and zero elsewhere. -/
theorem indicator (a n : ℕ) (ha : a < 625) (hn : n < 625) :
    FloatOps.uitofp (F := Ideal) .f32 (IntOp.cmpi .eq (BitVec.ofNat 32 a) (BitVec.ofNat 32 n))
      = if a = n then (1 : EReal) else 0 := by
  rw [show IntOp.cmpi .eq (BitVec.ofNat 32 a) (BitVec.ofNat 32 n) = BitVec.ofBool (decide (a = n)) from by
    unfold IntOp.cmpi
    simp only []
    congr 1
    rw [Bool.eq_iff_iff]
    simp [word_eq a n (by omega) (by omega)]]
  show (((BitVec.ofBool (decide (a = n))).toNat : ℝ) : EReal) = _
  by_cases h : a = n
  · simp [h]
  · simp [h]

/-- The indices that keep column `c` and bin `n` are those of every batch and token. -/
theorem fiber_tokens (c : Fin 4) (n : Fin 625) (i : S4x4096x4x625.Idx) :
    reducesTo_S4x4096x4x625_S4x625_d0_1.drop i = (ix2 c n : S4x625.Idx)
      ↔ ∃ p : Fin 4 × Fin 4096, (ix4 p.1 p.2 c n : S4x4096x4x625.Idx) = i := by
  constructor
  · intro e
    refine ⟨(i 0, i 1), ?_⟩
    have h0 : i 2 = c := Fin.ext (congrArg Fin.val (congrFun e 0))
    have h1 : i 3 = n := Fin.ext (congrArg Fin.val (congrFun e 1))
    rw [← h0, ← h1]
    exact (eq_ix4 i).symm
  · rintro ⟨p, rfl⟩
    funext a
    fin_cases a <;> rfl

/-- A sum over the first two axes, batch by batch and token by token. -/
theorem sum_tokens (x : FVec Ideal S4x4096x4x625 .f32) (c : Fin 4) (n : Fin 625) :
    Host.reduceAdd x (constant S_ .f32 0x00000000#32) reducesTo_S4x4096x4x625_S4x625_d0_1 h_S_ (ix2 c n)
      = ∑ b : Fin 4, ∑ t : Fin 4096, x (ix4 b t c n) := by
  show Ideal.ofBits .f32 0x00000000#32 + _ = _
  rw [Ideal.ofBits_zero, zero_add]
  refine (Finset.sum_filter_eq_sum_of_fiber _ (fun p : Fin 4 × Fin 4096 => (ix4 p.1 p.2 c n : S4x4096x4x625.Idx))
    (fun p q e => Prod.ext (congrFun e 0) (congrFun e 1)) (fiber_tokens c n) x).trans ?_
  exact Fintype.sum_prod_type _

variable (V0 : Valuation τ sig (Elt Ideal))

/-- The reference's arguments, as arrays. -/
abbrev X : Arr3 4 1024 4096 := V0 (Proc.devRef .tc main_arg0)
abbrev Win : Arr3 2 4 512 := V0 (Proc.devRef .tc main_arg1)
abbrev Bin : Arr2 2 4 := V0 (Proc.devRef .tc main_arg2)
abbrev Wout : Arr3 2 512 4 := V0 (Proc.devRef .tc main_arg3)
abbrev Bout : Arr2 2 512 := V0 (Proc.devRef .tc main_arg4)

/-- A token's activation in group `g`, in the reference's arguments. -/
abbrev token (b : Fin 4) (g : Fin 2) (t : Fin 4096) : Fin 4 → EReal := act (X V0) (Win V0) (Bin V0) b g t

/-! ## The index words -/

/-- The two quantizers' words of one group, side by side. -/
def paired (z : Arr) : IVec S1x4x4096x2 32 :=
  broadcastInDim S1x4x4096x2 ![1, 2, 3] bcast_S4x4096x2_S1x4x4096x2_1_2_3 (concatenate S4x4096x2 2
    [⟨S4x4096x1, (broadcastInDim S4x4096x1 ![0, 1] bcast_S4x4096_S4x4096x1_0_1 (ind0 V0 z))⟩,
     ⟨S4x4096x1, (broadcastInDim S4x4096x1 ![0, 1] bcast_S4x4096_S4x4096x1_0_1 (ind1 V0 z))⟩]
    concatenates_S4x4096x1_S4x4096x1_S4x4096x2_d2)

/-- A quantizer's word in the pair of one group. -/
theorem paired_at (z : Arr) (b : Fin 4) (t : Fin 4096) (r : Fin 2) :
    paired V0 z (ix4 0 b t r) = BitVec.ofNat 32 (index r fun d => z (ix3 b t d)) := by
  have h0 := ind0_at V0 z b t
  have h1 := ind1_at V0 z b t
  fin_cases r
  · pointwise [paired, h0]
  · pointwise [paired, h1]

/-- The index array is the two groups' pairs, group beside quantizer. -/
theorem v272_eq : res_main_v272 V0 = shapeCast _ (transpose S4x4096x2x2 [1, 2, 0, 3] (concatenate S2x4x4096x2 0
    [⟨S1x4x4096x2, paired V0 (res_main_v14 V0)⟩, ⟨S1x4x4096x2, paired V0 (res_main_v146 V0)⟩]
    concatenates_S1x4x4096x2_S1x4x4096x2_S2x4x4096x2_d0) transposes_S2x4x4096x2_S4x4096x2x2_1_2_0_3)
    shapeCasts_S4x4096x2x2_S4x4096x4 := rfl

/-- The column of group `g` and quantizer `r`. -/
abbrev col (g r : Fin 2) : Fin 4 := ⟨g.val * 2 + r.val, by omega⟩

/-- The index word of a token, in the column of its group and quantizer. -/
theorem v272_at (b : Fin 4) (t : Fin 4096) (g r : Fin 2) :
    res_main_v272 V0 (ix3 b t (col g r)) = BitVec.ofNat 32 (index r (token V0 b g t)) := by
  have h0 := paired_at V0 (res_main_v14 V0) b t r
  have h1 := paired_at V0 (res_main_v146 V0) b t r
  rw [show (fun d => res_main_v14 V0 (ix3 b t d)) = token V0 b 0 t from funext (v14_at V0 b t)] at h0
  rw [show (fun d => res_main_v146 V0 (ix3 b t d)) = token V0 b 1 t from funext (v146_at V0 b t)] at h1
  rw [v272_eq]
  fin_cases g
  · fin_cases r
    · pointwise
      exact h0
    · pointwise
      exact h0
  · fin_cases r
    · pointwise
      exact h1
    · pointwise
      exact h1

/-! ## The counts and the perplexities -/

/-- The mean count of a bin. -/
theorem v276_at (g r : Fin 2) (n : Fin 625) : res_main_v276 V0 (ix2 (col g r) n)
    = Ideal.div (hist (X V0) (Win V0) (Bin V0) g r n.val) (Ideal.ofBits .f32 0x46800000#32) := by
  refine (show res_main_v276 V0 (ix2 (col g r) n) = Ideal.div _ (Ideal.ofBits .f32 0x46800000#32) from rfl).trans ?_
  refine congrArg (Ideal.div · _) ((sum_tokens _ (col g r) n).trans ?_)
  unfold hist
  refine Finset.sum_congr rfl fun b _ => Finset.sum_congr rfl fun t _ => ?_
  have h := v272_at V0 b t g r
  pointwise [h]
  exact indicator _ _ (index_lt _ _) n.isLt

/-- The mean counts, as extended reals. -/
abbrev mean (g r : Fin 2) (n : Fin 625) : EReal := res_main_v276 V0 (ix2 (col g r) n)

/-- The normalised mean counts, as extended reals. -/
abbrev part (g r : Fin 2) (n : Fin 625) : EReal := res_main_v282 V0 (ix2 (col g r) n)

/-- The normalised mean count of a bin is its mean count over the sum of all, and the small constant. -/
theorem part_at (g r : Fin 2) (n : Fin 625) : part V0 g r n
    = Ideal.div (mean V0 g r n) ((∑ n, mean V0 g r n) + Ideal.ofBits .f32 0x3727C5AC#32) := by
  pointwise [part, mean, res_main_v282]

/-- The perplexities. -/
def perps : FVec Ideal S2x1x2 .f32 :=
  shapeCast _ (Host.exp (Host.negf (Host.reduceAdd (mulf (res_main_v282 V0) (Host.log (addf (res_main_v282 V0)
    (broadcastInDim S4x625 ![] bcast_S_S4x625 (constant S_ .f32 0x3727C5AC#32))))) (constant S_ .f32 0x00000000#32)
    reducesTo_S4x625_S4_d1 h_S_))) shapeCasts_S4_S2x1x2

/-- The perplexity of a column, in its normalised mean counts. -/
theorem perps_row (g r : Fin 2) : perps V0 (ix3 g 0 r)
    = Ideal.exp (-∑ n, part V0 g r n * Ideal.log (part V0 g r n + Ideal.ofBits .f32 0x3727C5AC#32)) := by
  fin_cases g
  · fin_cases r
    · have e : col 0 0 = 0 := rfl
      pointwise [perps, part, e]
    · have e : col 0 1 = 1 := rfl
      pointwise [perps, part, e]
  · fin_cases r
    · have e : col 1 0 = 2 := rfl
      pointwise [perps, part, e]
    · have e : col 1 1 = 3 := rfl
      pointwise [perps, part, e]

/-- The perplexity of a group and quantizer. -/
theorem perps_at (g r : Fin 2) : perps V0 (ix3 g 0 r) = perp fun n => hist (X V0) (Win V0) (Bin V0) g r n.val := by
  rw [perps_row]
  simp only [part_at, mean, v276_at]
  rfl

/-! ## The indices and the output projection -/

/-- The indices, group by group and quantizer by quantizer. -/
def inds : IVec S4x2x2x4096 32 :=
  shapeCast _ (transpose S4x4x4096 [0, 2, 1] (res_main_v272 V0) transposes_S4x4096x4_S4x4x4096_0_2_1) shapeCasts_S4x4x4096_S4x2x2x4096

/-- The index of a token at a group and quantizer. -/
theorem inds_at (b : Fin 4) (g r : Fin 2) (t : Fin 4096) :
    inds V0 (ix4 b g r t) = BitVec.ofNat 32 (index r (token V0 b g t)) := by
  have h := v272_at V0 b t g r
  pointwise [inds, h]

/-- One group's output projection of its quantized activations, and its bias. -/
def proj (z : Arr) (w : FVec Ideal S512x4 .f32) (b : FVec Ideal S512 .f32) : FVec Ideal S4x4096x512 .f32 :=
  addf (Host.dotGeneral dot_S4x4096x4_S512x4_S4x4096x512_2_1_01_0_n_n none (total V0 z) w)
    (broadcastInDim S4x4096x512 ![0, 1, 2] bcast_S1x1x512_S4x4096x512_0_1_2 (broadcastInDim S1x1x512 ![2] bcast_S512_S1x1x512_2 b))

/-- One group's output channel at a token. -/
theorem proj_at (z : Arr) (w : FVec Ideal S512x4 .f32) (v : FVec Ideal S512 .f32) (b : Fin 4) (t : Fin 4096) (k : Fin 512) :
    proj V0 z w v (ix3 b t k) = (∑ d : Fin 4, w (ix2 k d) * quant (z (ix3 b t d))) + v (ix1 k) := by
  pointwise [proj, total_at]
  refine congrArg (· + _) (Finset.sum_congr rfl fun d _ => ?_)
  exact mul_comm _ _

/-- The projections of both groups, channels before tokens. -/
def feats : FVec Ideal S4x1024x4096 .f32 :=
  transpose S4x1024x4096 [0, 2, 1] (concatenate S4x4096x1024 2
    [⟨S4x4096x512, proj V0 (res_main_v14 V0)
        (shapeCast _ (extractStridedSlice S1x512x4 ![0, 0, 0] (V0 (Proc.devRef .tc main_arg3)) slices_S2x512x4_S1x512x4_0_0_0) shapeCasts_S1x512x4_S512x4)
        (shapeCast _ (extractStridedSlice S1x512 ![0, 0] (V0 (Proc.devRef .tc main_arg4)) slices_S2x512_S1x512_0_0) shapeCasts_S1x512_S512)⟩,
     ⟨S4x4096x512, proj V0 (res_main_v146 V0)
        (shapeCast _ (extractStridedSlice S1x512x4 ![1, 0, 0] (V0 (Proc.devRef .tc main_arg3)) slices_S2x512x4_S1x512x4_1_0_0) shapeCasts_S1x512x4_S512x4)
        (shapeCast _ (extractStridedSlice S1x512 ![1, 0] (V0 (Proc.devRef .tc main_arg4)) slices_S2x512_S1x512_1_0) shapeCasts_S1x512_S512)⟩]
    concatenates_S4x4096x512_S4x4096x512_S4x4096x1024_d2) transposes_S4x4096x1024_S4x1024x4096_0_2_1

/-- The feature at a channel of a group. -/
theorem feats_at (b : Fin 4) (g : Fin 2) (k : Fin 512) (t : Fin 4096) : feats V0 (ix3 b (chan g k) t)
    = feat (X V0) (Win V0) (Bin V0) (Wout V0) (Bout V0) b g k t := by
  unfold feat
  fin_cases g
  · pointwise [feats, proj_at, v14_at]
  · pointwise [feats, proj_at, v146_at]

end Fsq.Ref

end
-- ==== Proof.Equation.lean ====
/-
  The equation: at arguments that agree, the reference's four results are the arrays the kernel leaves.
-/
module

public import proofs.«01_k».proof.Proof.KernelArray
public import proofs.«01_k».proof.Proof.ReferenceArray

@[expose] public section

set_option maxRecDepth 16384

noncomputable section

namespace Fsq

open Idealize.ShloMosaic Idealize.ShloMosaic.TcCoe

variable (m : (ℓ : Loc Cert.KernelIdeal.nD Cert.KernelIdeal.τ Cert.KernelIdeal.sig) → Buf (Elt Ideal) ℓ)
  (c : Dev Cert.KernelIdeal.nD) (V0 : Valuation Cert.ReferenceIdeal.τ Cert.ReferenceIdeal.sig (Elt Ideal))
  (h0 : Ref.X V0 = Point.X m c) (h1 : Ref.Win V0 = Point.Win m c) (h2 : Ref.Bin V0 = Point.Bin m c)

/-- The reference's first result is zero, as the kernel's is. -/
theorem zeros_eq (h : Cert.ReferenceIdeal.S_.BroadcastsInDim Cert.ReferenceIdeal.S4 ![]) :
    broadcastInDim Cert.ReferenceIdeal.S4 ![] h
      (constant (F := Ideal) Cert.ReferenceIdeal.S_ .f32 0x00000000#32)
    = (fun _ => (0 : EReal) : Cert.KernelIdeal.S4.Idx → EReal) := by
  funext i
  exact Ideal.ofBits_zero .f32

include h0 h1 h2

/-- The features agree. -/
theorem feats_eq (h3 : Ref.Wout V0 = Point.Wout m c) (h4 : Ref.Bout V0 = Point.Bout m c) :
    (Ref.feats V0 : Arr3 4 1024 4096) = Point.featArr m c := by
  funext i
  obtain ⟨b, k, t, rfl⟩ : ∃ (b : Fin 4) (k : Fin 1024) (t : Fin 4096), i = ix3 b k t := ⟨i 0, i 1, i 2, eq_ix3 i⟩
  obtain ⟨g, j, rfl⟩ : ∃ (g : Fin 2) (j : Fin 512), k = chan g j :=
    ⟨⟨k.val / 512, by omega⟩, ⟨k.val % 512, by omega⟩, by rw [Fin.ext_iff]; dsimp only; omega⟩
  refine (Ref.feats_at V0 b g j t).trans ?_
  rw [h0, h1, h2, h3, h4, Point.featArr_at]

/-- The perplexities agree. -/
theorem perps_eq : (Ref.perps V0 : Arr3 2 1 2) = Point.perpArr m c := by
  funext i
  obtain ⟨g, o, r, rfl⟩ : ∃ (g : Fin 2) (o : Fin 1) (r : Fin 2), i = ix3 g o r := ⟨i 0, i 1, i 2, eq_ix3 i⟩
  obtain rfl : o = 0 := Subsingleton.elim _ _
  refine (Ref.perps_at V0 g r).trans ?_
  rw [h0, h1, h2, Point.perpArr_at]

/-- The indices agree. -/
theorem inds_eq : Ref.inds V0 = Point.indArr m c := by
  funext i
  obtain ⟨b, g, r, t, rfl⟩ : ∃ (b : Fin 4) (g : Fin 2) (r : Fin 2) (t : Fin 4096), i = ix4 b g r t :=
    ⟨i 0, i 1, i 2, i 3, eq_ix4 i⟩
  refine (Ref.inds_at V0 b g r t).trans ?_
  rw [Ref.token, h0, h1, h2]
  rfl

end Fsq

end
-- ==== Proof.lean ====
/-
  The certificate: the frames of the three programs, the idealization's `preserves`, and the algebraic claim,
  assembled from the kernel's run, the reference's run and the equation between their arrays.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Equation
public import Idealize.ShloMosaic.Adequacy
public import Idealize.ShloMosaic.Init

@[expose] public section

set_option maxRecDepth 16384

noncomputable section

namespace Cert.Proof

open Idealize.ShloMosaic Idealize.SL.Sem Cert.Kernel

/-- The reference keeps its arguments and ends with every semaphore counter at zero. -/
theorem reference_frame : quiescent_ReferenceIdeal (hReferenceIdeal := Cert.ReferenceIdeal.Gen.facts) := by
  intro m ρ _
  exact (θ_run Cert.ReferenceIdeal.defs _ _).mono
    (fun r h => ⟨fun c => (h c).2.2.2.2, Idealize.ShloMosaic.sem_eq_zero_of_no_sems (by decide) r.2⟩)
    (Cert.ReferenceIdeal.Value.run (F := Ideal) m ρ)

/-- Kernel and reference, from equal arguments, end with equal results: zeros, features, perplexities, indices. -/
theorem equation : algebraic_KernelIdeal_ReferenceIdeal (hKernelIdeal := Cert.KernelIdeal.Gen.facts)
    (hReferenceIdeal := Cert.ReferenceIdeal.Gen.facts) := by
  intro m ρ m' ρ' _ ha
  refine ⟨fun _ _ => (0 : EReal), fun c => Fsq.Point.featArr m c, fun c => Fsq.Point.perpArr m c,
    fun c => Fsq.Point.indArr m c, Fsq.Point.run m ρ, ?_⟩
  refine (θ_run Cert.ReferenceIdeal.defs _ _).mono (fun r h c => ?_) (Cert.ReferenceIdeal.Value.run (F := Ideal) m' ρ')
  obtain ⟨a0, a1, a2, a3, a4⟩ := ha c
  obtain ⟨r0, r1, r2, r3, kept⟩ := h c
  exact ⟨r0.trans (Fsq.zeros_eq _), r1.trans (Fsq.feats_eq m c _ a0 a1 a2 a3 a4),
    r2.trans (Fsq.perps_eq m c _ a0 a1 a2), r3.trans (Fsq.inds_eq m c _ a0 a1 a2), kept⟩

/-- Everything the certificate claims. -/
theorem claim : Cert.Claim := ⟨Cert.Kernel.Gen.facts, Cert.KernelIdeal.Gen.facts, Cert.ReferenceIdeal.Gen.facts,
  fun m ρ _ => Cert.Kernel.Gen.frame m ρ, fun m ρ _ => Cert.KernelIdeal.Gen.frame m ρ, reference_frame, trivial, equation⟩

end Cert.Proof

end
